-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_clip_KernelIdeal [hPre_within_clip_KernelIdeal : Cert.Pre_within_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_clip_ReferenceIdeal [hPre_within_clip_ReferenceIdeal : Cert.Pre_within_clip_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_clip_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_within_clip_KernelIdeal [hKernelIdeal : Cert.KernelIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_within_clip_ReferenceIdeal [hReferenceIdeal : Cert.ReferenceIdeal.Facts] [hPre_within_clip_ReferenceIdeal : Cert.Pre_within_clip_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_clip_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_ReferenceIdeal_pre_within_clip_KernelIdeal [hKernelIdeal : Cert.KernelIdeal.Facts] [hReferenceIdeal : Cert.ReferenceIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_clip_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![16, 64, 64]⟩ ⟨3, ![16, 64, 1024]⟩ 2 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![1024, 1024]⟩ 0 16 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)) →
    ∃ (v0 : Buf (Elt Ideal) (((0 : Dev Cert.UnclippedIdeal.nD).tc : Thread Cert.UnclippedIdeal.nD Cert.UnclippedIdeal.τ).loc Cert.UnclippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![16, 64, 64]⟩ ⟨3, ![16, 64, 1024]⟩ 2 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v6) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_within_clip_KernelIdeal : Cert.Pre_within_clip_KernelIdeal.Facts) (hPre_within_clip_ReferenceIdeal : Cert.Pre_within_clip_ReferenceIdeal.Facts),
    quiescent_Kernel (hKernel := hKernel)
    ∧ quiescent_KernelIdeal (hKernelIdeal := hKernelIdeal)
    ∧ quiescent_KernelIdeal_pre_within_clip_KernelIdeal (hKernelIdeal := hKernelIdeal) (hPre_within_clip_KernelIdeal := hPre_within_clip_KernelIdeal)
    ∧ quiescent_ReferenceIdeal (hReferenceIdeal := hReferenceIdeal)
    ∧ quiescent_ReferenceIdeal_pre_within_clip_ReferenceIdeal (hReferenceIdeal := hReferenceIdeal) (hPre_within_clip_ReferenceIdeal := hPre_within_clip_ReferenceIdeal)
    ∧ quiescent_UnclippedIdeal (hUnclippedIdeal := hUnclippedIdeal)
    ∧ preserves_Kernel_KernelIdeal
    ∧ algebraic_KernelIdeal_ReferenceIdeal_pre_within_clip_KernelIdeal (hKernelIdeal := hKernelIdeal) (hReferenceIdeal := hReferenceIdeal) (hPre_within_clip_KernelIdeal := hPre_within_clip_KernelIdeal)
    ∧ algebraic_KernelIdeal_UnclippedIdeal (hKernelIdeal := hKernelIdeal) (hUnclippedIdeal := hUnclippedIdeal)
-- ==== Pre_within_clip_KernelIdeal.lean ====
abbrev S64x1024 : Shape := ⟨2, ![64, 1024]⟩
abbrev S1024x1024 : Shape := ⟨2, ![1024, 1024]⟩
abbrev S_ : Shape := ⟨0, ![]⟩

class Facts : Prop where
  bcast_S_S64x1024 : S_.BroadcastsInDim S64x1024 (![] : Fin 0 → Fin S64x1024.rank)
  dot_S64x1024_S1024x1024_S64x1024_1_0_0_1_n_n_wf : DotDims.WF S64x1024 S1024x1024 S64x1024 [1] [0] [0] [1] [] []

variable [Facts]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def fn {F : FTy → Type} [FloatOps F] (main_arg0 : FVec F S64x1024 .f32) (main_arg1 : FVec F S1024x1024 .f32) : IVec S64x1024 1 :=
  let main_v0 : FVec F S64x1024 .f32 := (fun l r => Host.dotGeneral dot_S64x1024_S1024x1024_S64x1024_1_0_0_1_n_n none l r) main_arg0 main_arg1
  let main_v1 : FVec F S64x1024 .f32 := Host.absf main_v0
  let main_cst : FVec F S_ .f32 := constant S_ .f32 0x42700000#32
  let main_v2 : FVec F S64x1024 .f32 := broadcastInDim S64x1024 ![] bcast_S_S64x1024 main_cst
  let main_v3 : IVec S64x1024 1 := cmpf .ole main_v1 main_v2
  main_v3
-- ==== Pre_within_clip_ReferenceIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .f32) (main_arg1 : FVec F S1024x1024 .f32) : IVec S1024x1024 1 :=
  let main_v0 : FVec F S1024x1024 .f32 := (fun l r => Host.dotGeneral dot_S1024x1024_S1024x1024_S1024x1024_1_0_0_1_n_n none l r) main_arg0 main_arg1
  let main_v1 : FVec F S1024x1024 .f32 := Host.absf main_v0
  let main_cst : FVec F S_ .f32 := constant S_ .f32 0x42700000#32
  let main_v2 : FVec F S1024x1024 .f32 := broadcastInDim S1024x1024 ![] bcast_S_S1024x1024 main_cst
  let main_v3 : IVec S1024x1024 1 := cmpf .ole main_v1 main_v2
  main_v3
-- ==== Kernel.lean ====
abbrev S64x1024 : Shape := ⟨2, ![64, 1024]⟩
abbrev S1024x1024 : Shape := ⟨2, ![1024, 1024]⟩
abbrev S16x64x64 : Shape := ⟨3, ![16, 64, 64]⟩
abbrev S16 : Shape := ⟨1, ![16]⟩
abbrev S_ : Shape := ⟨0, ![]⟩
abbrev S64x64 : Shape := ⟨2, ![64, 64]⟩
abbrev S1x64x64 : Shape := ⟨3, ![1, 64, 64]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S64x1024, .f32⟩
  | .hbm, ⟨1, _⟩ => ⟨S1024x1024, .f32⟩
  | .hbm, ⟨2, _⟩ => ⟨S16x64x64, .f32⟩
  | .local _ .vmem, ⟨0, _⟩ => ⟨S64x1024, .f32⟩
  | .local _ .vmem, ⟨1, _⟩ => ⟨S1024x1024, .f32⟩
  | .local _ .vmem, ⟨2, _⟩ => ⟨S16x64x64, .f32⟩
  | .local _ .vmem, ⟨3, _⟩ => ⟨S16x64x64, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  let c0_i32_92 : BitVec 32 := 0#32
  ![v2.toNat, 0, 0]
def k0_off3 (d0 : Dev nD) (c1_i32_86 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v107 : BitVec 32 := Scalar.addi v2 c1_i32_86
  let c16_i32_87 : BitVec 32 := 16#32
  let v108 : BitVec 32 := Scalar.remsi v107 c16_i32_87
  let c0_i32_93 : BitVec 32 := 0#32
  let c0_i32_94 : BitVec 32 := 0#32
  ![v108.toNat, 0, 0]
def k0_dev17 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_86 : BitVec 32 := 1#32
  let v107 : BitVec 32 := Scalar.addi v2 c1_i32_86
  let c16_i32_87 : BitVec 32 := 16#32
  let v108 : BitVec 32 := Scalar.remsi v107 c16_i32_87
  let c1_i32_89 : BitVec 32 := 1#32
  let v109 : BitVec 32 := Scalar.muli v108 c1_i32_89
  let v110 : BitVec 32 := Scalar.addi c0_i32_90 v109
  v110.toNat
def k0_dev18 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_95 : BitVec 32 := 2#32
  let v119 : BitVec 32 := Scalar.addi v2 c2_i32_95
  let c16_i32_96 : BitVec 32 := 16#32
  let v120 : BitVec 32 := Scalar.remsi v119 c16_i32_96
  let c1_i32_98 : BitVec 32 := 1#32
  let v121 : BitVec 32 := Scalar.muli v120 c1_i32_98
  let v122 : BitVec 32 := Scalar.addi c0_i32_99 v121
  v122.toNat
def k0_dev19 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_104 : BitVec 32 := 3#32
  let v131 : BitVec 32 := Scalar.addi v2 c3_i32_104
  let c16_i32_105 : BitVec 32 := 16#32
  let v132 : BitVec 32 := Scalar.remsi v131 c16_i32_105
  let c1_i32_107 : BitVec 32 := 1#32
  let v133 : BitVec 32 := Scalar.muli v132 c1_i32_107
  let v134 : BitVec 32 := Scalar.addi c0_i32_108 v133
  v134.toNat
def k0_dev20 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_113 : BitVec 32 := 4#32
  let v143 : BitVec 32 := Scalar.addi v2 c4_i32_113
  let c16_i32_114 : BitVec 32 := 16#32
  let v144 : BitVec 32 := Scalar.remsi v143 c16_i32_114
  let c1_i32_116 : BitVec 32 := 1#32
  let v145 : BitVec 32 := Scalar.muli v144 c1_i32_116
  let v146 : BitVec 32 := Scalar.addi c0_i32_117 v145
  v146.toNat
def k0_dev21 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_122 : BitVec 32 := 5#32
  let v155 : BitVec 32 := Scalar.addi v2 c5_i32_122
  let c16_i32_123 : BitVec 32 := 16#32
  let v156 : BitVec 32 := Scalar.remsi v155 c16_i32_123
  let c1_i32_125 : BitVec 32 := 1#32
  let v157 : BitVec 32 := Scalar.muli v156 c1_i32_125
  let v158 : BitVec 32 := Scalar.addi c0_i32_126 v157
  v158.toNat
def k0_dev22 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_131 : BitVec 32 := 6#32
  let v167 : BitVec 32 := Scalar.addi v2 c6_i32_131
  let c16_i32_132 : BitVec 32 := 16#32
  let v168 : BitVec 32 := Scalar.remsi v167 c16_i32_132
  let c1_i32_134 : BitVec 32 := 1#32
  let v169 : BitVec 32 := Scalar.muli v168 c1_i32_134
  let v170 : BitVec 32 := Scalar.addi c0_i32_135 v169
  v170.toNat
def k0_dev23 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_140 : BitVec 32 := 7#32
  let v179 : BitVec 32 := Scalar.addi v2 c7_i32_140
  let c16_i32_141 : BitVec 32 := 16#32
  let v180 : BitVec 32 := Scalar.remsi v179 c16_i32_141
  let c1_i32_143 : BitVec 32 := 1#32
  let v181 : BitVec 32 := Scalar.muli v180 c1_i32_143
  let v182 : BitVec 32 := Scalar.addi c0_i32_144 v181
  v182.toNat
def k0_dev24 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_149 : BitVec 32 := 8#32
  let v191 : BitVec 32 := Scalar.addi v2 c8_i32_149
  let c16_i32_150 : BitVec 32 := 16#32
  let v192 : BitVec 32 := Scalar.remsi v191 c16_i32_150
  let c1_i32_152 : BitVec 32 := 1#32
  let v193 : BitVec 32 := Scalar.muli v192 c1_i32_152
  let v194 : BitVec 32 := Scalar.addi c0_i32_153 v193
  v194.toNat
def k0_dev25 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_158 : BitVec 32 := 9#32
  let v203 : BitVec 32 := Scalar.addi v2 c9_i32_158
  let c16_i32_159 : BitVec 32 := 16#32
  let v204 : BitVec 32 := Scalar.remsi v203 c16_i32_159
  let c1_i32_161 : BitVec 32 := 1#32
  let v205 : BitVec 32 := Scalar.muli v204 c1_i32_161
  let v206 : BitVec 32 := Scalar.addi c0_i32_162 v205
  v206.toNat
def k0_dev26 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_167 : BitVec 32 := 10#32
  let v215 : BitVec 32 := Scalar.addi v2 c10_i32_167
  let c16_i32_168 : BitVec 32 := 16#32
  let v216 : BitVec 32 := Scalar.remsi v215 c16_i32_168
  let c1_i32_170 : BitVec 32 := 1#32
  let v217 : BitVec 32 := Scalar.muli v216 c1_i32_170
  let v218 : BitVec 32 := Scalar.addi c0_i32_171 v217
  v218.toNat
def k0_dev27 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_176 : BitVec 32 := 11#32
  let v227 : BitVec 32 := Scalar.addi v2 c11_i32_176
  let c16_i32_177 : BitVec 32 := 16#32
  let v228 : BitVec 32 := Scalar.remsi v227 c16_i32_177
  let c1_i32_179 : BitVec 32 := 1#32
  let v229 : BitVec 32 := Scalar.muli v228 c1_i32_179
  let v230 : BitVec 32 := Scalar.addi c0_i32_180 v229
  v230.toNat
def k0_dev28 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_185 : BitVec 32 := 12#32
  let v239 : BitVec 32 := Scalar.addi v2 c12_i32_185
  let c16_i32_186 : BitVec 32 := 16#32
  let v240 : BitVec 32 := Scalar.remsi v239 c16_i32_186
  let c1_i32_188 : BitVec 32 := 1#32
  let v241 : BitVec 32 := Scalar.muli v240 c1_i32_188
  let v242 : BitVec 32 := Scalar.addi c0_i32_189 v241
  v242.toNat
def k0_dev29 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_194 : BitVec 32 := 13#32
  let v251 : BitVec 32 := Scalar.addi v2 c13_i32_194
  let c16_i32_195 : BitVec 32 := 16#32
  let v252 : BitVec 32 := Scalar.remsi v251 c16_i32_195
  let c1_i32_197 : BitVec 32 := 1#32
  let v253 : BitVec 32 := Scalar.muli v252 c1_i32_197
  let v254 : BitVec 32 := Scalar.addi c0_i32_198 v253
  v254.toNat
def k0_dev30 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_203 : BitVec 32 := 14#32
  let v263 : BitVec 32 := Scalar.addi v2 c14_i32_203
  let c16_i32_204 : BitVec 32 := 16#32
  let v264 : BitVec 32 := Scalar.remsi v263 c16_i32_204
  let c1_i32_206 : BitVec 32 := 1#32
  let v265 : BitVec 32 := Scalar.muli v264 c1_i32_206
  let v266 : BitVec 32 := Scalar.addi c0_i32_207 v265
  v266.toNat
def k0_dev31 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_212 : BitVec 32 := 15#32
  let v275 : BitVec 32 := Scalar.addi v2 c15_i32_212
  let c16_i32_213 : BitVec 32 := 16#32
  let v276 : BitVec 32 := Scalar.remsi v275 c16_i32_213
  let c1_i32_215 : BitVec 32 := 1#32
  let v277 : BitVec 32 := Scalar.muli v276 c1_i32_215
  let v278 : BitVec 32 := Scalar.addi c0_i32_216 v277
  v278.toNat
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v287 : Index := Scalar.indexCast v2
  let c0_221 : Index := 0#32
  let c0_222 : Index := 0#32
  ![v287.toNat, 0, 0]
def k0_off5 (d0 : Dev nD) (c1_i32_225 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v294 : BitVec 32 := Scalar.subi v2 c1_i32_225
  let c16_i32_226 : BitVec 32 := 16#32
  let v295 : BitVec 32 := Scalar.addi v294 c16_i32_226
  let c16_i32_227 : BitVec 32 := 16#32
  let v296 : BitVec 32 := Scalar.remsi v295 c16_i32_227
  ![v296.toNat]
def k0_off6 (d0 : Dev nD) (c1_i32_225 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v294 : BitVec 32 := Scalar.subi v2 c1_i32_225
  let c16_i32_226 : BitVec 32 := 16#32
  let v295 : BitVec 32 := Scalar.addi v294 c16_i32_226
  let c16_i32_227 : BitVec 32 := 16#32
  let v296 : BitVec 32 := Scalar.remsi v295 c16_i32_227
  let c0_i32_231 : BitVec 32 := 0#32
  let c0_i32_232 : BitVec 32 := 0#32
  ![v296.toNat, 0, 0]
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩
abbrev S16x64x1024 : Shape := ⟨3, ![16, 64, 1024]⟩

abbrev nBuf : Space → Nat
  | .hbm => 18
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S16x64x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== UnclippedIdeal.lean ====
abbrev S1024x1024 : Shape := ⟨2, ![1024, 1024]⟩
abbrev S_ : Shape := ⟨0, ![]⟩
abbrev S16x64x1024 : Shape := ⟨3, ![16, 64, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S16x64x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Program.lean ====
/-
# The kernel body as loops

The printed body of one device is straight-line text: sixteen signals, one wait, sixteen stores, fifteen
transfers, an own copy, fifteen waits for what arrives and fifteen for what left. Here the same program is
written with its loops (`body`), and `body_eq` says the two are one program.
-/
module

public import proofs.«01_k».proof.Proof.Gen.KernelIdeal
public import proofs.«01_k».proof.Proof.Gen.KernelIdeal.Skeleton

@[expose] public section

noncomputable section

namespace Cert.AllToAll

open Cert.KernelIdeal Cert.KernelIdeal.Gen
open Idealize.ShloMosaic Idealize.SL.Sem

variable {F : FTy → Type} [FloatOps F]

/-- Programs of one TensorCore. -/
abbrev P (F : FTy → Type) (α : Type) : Type _ := Prog (TpuEff nD τ sig (Elt F) Λ₀ .tc) α

/-- `f 0`, then `f 1`, and so on up to `f (n - 1)`. -/
def each : (n : ℕ) → (Fin n → P F PUnit) → P F PUnit
  | 0, _ => pure ⟨⟩
  | n + 1, f => f ⟨0, Nat.succ_pos n⟩ >>= fun _ => each n fun k => f ⟨k.val + 1, Nat.succ_lt_succ k.isLt⟩

/-! ## The buffers and semaphores -/

abbrev xM : Memref sig .tc .vmem S64x1024 .f32 := Memref.whole cc0_stg0_0
abbrev wM : Memref sig .tc .vmem S1024x1024 .f32 := Memref.whole cc0_stg1_0
/-- The staging buffer of the result: row `s` receives what device `s` sends. -/
abbrev oM : Memref sig .tc .vmem S16x64x64 .f32 := Memref.whole cc0_stg2_0
/-- The scratch buffer of the device's own activations: row `t` goes to device `t`. -/
abbrev yM : Memref sig .tc .vmem S16x64x64 .f32 := Memref.whole cc0_scratch0

abbrev barS : Sem sig := (SemArray.scalar (sig.barrier 0 rfl) : Sems sig S_).sem

/-- The sixty-four by sixty-four block of a `16x64x64` buffer at offsets `o`, as a matrix. -/
abbrev blockAt (M : Memref sig .tc .vmem S16x64x64 .f32) (o : Fin 3 → ℕ) (h : ∀ a, o a + S1x64x64.size a ≤ S16x64x64.size a) :
    Memref sig .tc .vmem S64x64 .f32 :=
  (M.slice (Rect.unit (s := S16x64x64) o S1x64x64.size h) (fun _ => rfl)).squeeze S64x64 squeezes_S1x64x64_S64x64

/-- The semaphore of a sixteen-long array at offset `o`. -/
abbrev semAt (A : DmaSems sig S16) (o : Fin 1 → ℕ) (h : ∀ a, o a + S1.size a ≤ S16.size a) : DmaSem sig :=
  ((A.slice (Rect.unit (s := S16) o S1.size h)).squeeze S_ squeezes_S1_S_).sem

theorem row_inb (k : Fin 16) : ∀ a, (![k.val, 0, 0] : Fin 3 → ℕ) a + S1x64x64.size a ≤ S16x64x64.size a := by
  revert k; decide
theorem slot_inb (k : Fin 15) : ∀ a, (![k.val + 1] : Fin 1 → ℕ) a + S1.size a ≤ S16.size a := by
  revert k; decide
theorem cols_slices (k : Fin 16) : S64x1024.Slices ![0, 64 * k.val] S64x64 := by
  revert k; decide

/-! ## The steps -/

/-- The device `k + 1` places on, as the printed text computes it. -/
def peer (c : Dev nD) : Fin 15 → Dev nD := ![⟨k0_dev17 c, k0_dev17_lt c⟩, ⟨k0_dev18 c, k0_dev18_lt c⟩,
  ⟨k0_dev19 c, k0_dev19_lt c⟩, ⟨k0_dev20 c, k0_dev20_lt c⟩, ⟨k0_dev21 c, k0_dev21_lt c⟩, ⟨k0_dev22 c, k0_dev22_lt c⟩,
  ⟨k0_dev23 c, k0_dev23_lt c⟩, ⟨k0_dev24 c, k0_dev24_lt c⟩, ⟨k0_dev25 c, k0_dev25_lt c⟩, ⟨k0_dev26 c, k0_dev26_lt c⟩,
  ⟨k0_dev27 c, k0_dev27_lt c⟩, ⟨k0_dev28 c, k0_dev28_lt c⟩, ⟨k0_dev29 c, k0_dev29_lt c⟩, ⟨k0_dev30 c, k0_dev30_lt c⟩,
  ⟨k0_dev31 c, k0_dev31_lt c⟩]

/-- Columns `64k` to `64k + 63` of the activations, as one row of the scratch buffer. -/
def colsOf (k : Fin 16) (y : FVec F S64x1024 .f32) : FVec F S1x64x64 .f32 :=
  shapeCast S1x64x64 (extractStridedSlice S64x64 ![0, 64 * k.val] y (cols_slices k)) shapeCasts_S64x64_S1x64x64

/-- A unit to the barrier of device `p`. -/
def signal (p : Fin 16) : P F PUnit := semSignalWord (p : Dev nD) barS 1#32

/-- Row `k` of the scratch buffer is read (and not used), then written. -/
def fill (y : FVec F S64x1024 .f32) (k : Fin 16) : P F PUnit := do
  let _ : Vec F S1x64x64 .f32 ← Prog.lift (.load yM (Rect.unit (s := S16x64x64) ![k.val, 0, 0] S1x64x64.size (row_inb k)).toLoadRect (View.loadsAt_vmem h_S1x64x64))
  Prog.lift (.store yM (Rect.unit (s := S16x64x64) ![k.val, 0, 0] S1x64x64.size (row_inb k)) (colsOf k y) Finset.univ (View.stores_vmem_bits_univ h_S1x64x64 rfl) (.inl rfl))

/-- The transfer of one row of the scratch buffer to the device `k + 1` places on, into this device's row there. -/
def send (c : Dev nD) (k : Fin 15) : P F PUnit :=
  Prog.lift (.enqueueDma (blockAt yM (k0_off3 c (BitVec.ofNat 32 (1 + k.val))) (k0_off3_inb c k))
    (.remote (Dev.tc (peer c k)) (blockAt oM (k0_off2 c) (k0_off2_inb c)) (.dma (semAt cc0_scratch1 ![k.val + 1] (slot_inb k))))
    (.dma (semAt cc0_scratch2 (k0_off1 c) (k0_off1_inb c))) ((View.wordExact_bits rfl).reshape _ _) ((View.wordExact_bits rfl).reshape _ _)
    ⟨⟨rfl, Or.inl rfl⟩, trivial⟩)

/-- The device's own row is copied from the scratch buffer to the result. -/
def keep (c : Dev nD) : P F PUnit := do
  let v : Vec F S1x64x64 .f32 ← Prog.lift (.load yM (Rect.unit (s := S16x64x64) (k0_off4 c) S1x64x64.size (k0_off4_inb c)).toLoadRect (View.loadsAt_vmem h_S1x64x64))
  let _ : Vec F S1x64x64 .f32 ← Prog.lift (.load oM (Rect.unit (s := S16x64x64) (k0_off4 c) S1x64x64.size (k0_off4_inb c)).toLoadRect (View.loadsAt_vmem h_S1x64x64))
  Prog.lift (.store oM (Rect.unit (s := S16x64x64) (k0_off4 c) S1x64x64.size (k0_off4_inb c)) (k0_pay21 (k0_pay20 v)) Finset.univ (View.stores_vmem_bits_univ h_S1x64x64 rfl) (.inl rfl))

/-- The wait for what the device `k + 1` places back sends. -/
def awaitRecv (c : Dev nD) (k : Fin 15) : P F PUnit :=
  Prog.lift (.waitDma2 (semAt cc0_scratch2 (k0_off5 c (BitVec.ofNat 32 (1 + k.val))) (k0_off5_inb c k))
    (blockAt yM (k0_off6 c (BitVec.ofNat 32 (1 + k.val))) (k0_off6_inb c k)) (blockAt oM (k0_off6 c (BitVec.ofNat 32 (1 + k.val))) (k0_off6_inb c k))
    ((View.wordExact_bits rfl).reshape _ _) ((View.wordExact_bits rfl).reshape _ _))

/-- The wait for the transfer to the device `k + 1` places on to have left. -/
def awaitSent (c : Dev nD) (k : Fin 15) : P F PUnit :=
  Prog.lift (.waitDma2 (semAt cc0_scratch1 ![k.val + 1] (slot_inb k))
    (blockAt oM (k0_off2 c) (k0_off2_inb c)) (blockAt yM (k0_off3 c (BitVec.ofNat 32 (1 + k.val))) (k0_off3_inb c k))
    ((View.wordExact_bits rfl).reshape _ _) ((View.wordExact_bits rfl).reshape _ _))

/-- The body of one device. -/
def body : P F PUnit := do
  let c : Dev nD ← Prog.lift .deviceId
  each 16 signal
  semWaitWord barS 16#32
  let x : Vec F S64x1024 .f32 ← Prog.lift (.load xM (Rect.unit (s := S64x1024) ![0, 0] S64x1024.size inb_S64x1024_S64x1024_0_0).toLoadRect (View.loadsAt_vmem h_S64x1024))
  let w : Vec F S1024x1024 .f32 ← Prog.lift (.load wM (Rect.unit (s := S1024x1024) ![0, 0] S1024x1024.size inb_S1024x1024_S1024x1024_0_0).toLoadRect (View.loadsAt_vmem h_S1024x1024))
  each 16 (fill (k0_pay1 x w))
  each 15 (send c)
  keep c
  each 15 (awaitRecv c)
  each 15 (awaitSent c)

set_option maxRecDepth 65536 in
/-- The printed body is the body with its loops. -/
theorem body_eq : cc0_body (F := F) xM (Memref.isWhole_whole _) wM (Memref.isWhole_whole _) oM (Memref.isWhole_whole _) yM (Memref.isWhole_whole _)
    cc0_scratch1 cc0_scratch2 = body := rfl

end Cert.AllToAll

end
-- ==== Proof.Rows.lean ====
/-
# The rows of a sixteen-row buffer

Both the scratch buffer and the staging buffer of the result have sixteen rows of `64x64` entries. A row is
addressed in two ways: as a `1x64x64` rectangle by the loads and stores, and as a `64x64` matrix by the
transfers. Here are the sets of entries the rows cover, and what a store, a load and a transfer of a row do to
contents given row by row.
-/
module

public import proofs.«01_k».proof.Proof.Program
public import Idealize.ShloMosaic.Lib.Pipeline.Launch
public import Idealize.ShloMosaic.Lib.Pipeline.Kit
public import Idealize.ShloMosaic.Lib.Tactic

@[expose] public section

noncomputable section

namespace Cert.AllToAll

open Cert.KernelIdeal Cert.KernelIdeal.Gen
open Idealize.ShloMosaic Idealize.SL.Sem

/-- Row `k` as a rectangle. -/
abbrev rowRect (k : Fin 16) : Rect S16x64x64 := Rect.unit (s := S16x64x64) ![k.val, 0, 0] S1x64x64.size (row_inb k)

/-- The entries of row `k`. -/
abbrev rowSet (k : Fin 16) : Finset S16x64x64.Idx := (rowRect k).set

/-- The entry of a row under an entry of the whole buffer. -/
def within (i : S16x64x64.Idx) : S1x64x64.Idx := Fin.cons (0 : Fin 1) (fun a => i a.succ)

theorem emb_zero (k : Fin 16) (x : S1x64x64.Idx) : ((rowRect k).emb x) 0 = k := by
  apply Fin.ext
  rw [Rect.emb_apply]
  show k.val + 1 * (x 0).val = k.val
  have : (x 0).val < 1 := (x 0).isLt
  omega

theorem within_emb (k : Fin 16) (x : S1x64x64.Idx) : within ((rowRect k).emb x) = x := by
  funext a
  match a with
  | ⟨0, _⟩ => exact Subsingleton.elim (α := Fin 1) _ _
  | ⟨1, _⟩ => apply Fin.ext; show 0 + 1 * (x 1).val = (x 1).val; omega
  | ⟨2, _⟩ => apply Fin.ext; show 0 + 1 * (x 2).val = (x 2).val; omega

theorem emb_within (i : S16x64x64.Idx) : (rowRect (i 0)).emb (within i) = i := by
  funext a
  match a with
  | ⟨0, _⟩ => exact emb_zero _ _
  | ⟨1, _⟩ => apply Fin.ext; show 0 + 1 * (i 1).val = (i 1).val; omega
  | ⟨2, _⟩ => apply Fin.ext; show 0 + 1 * (i 2).val = (i 2).val; omega

theorem mem_rowSet {k : Fin 16} {i : S16x64x64.Idx} : i ∈ rowSet k ↔ i 0 = k := by
  unfold rowSet
  rw [← Rect.map_emb_univ, Finset.mem_map]
  constructor
  · rintro ⟨x, -, rfl⟩; exact emb_zero k x
  · rintro rfl; exact ⟨within i, Finset.mem_univ _, emb_within i⟩

theorem rowSet_disjoint (k k' : Fin 16) (h : k ≠ k') : Disjoint (rowSet k) (rowSet k') :=
  Finset.disjoint_left.mpr fun _ hi hi' => h ((mem_rowSet.mp hi).symm.trans (mem_rowSet.mp hi'))

theorem rowSet_cover : Finset.univ.biUnion rowSet = Finset.univ :=
  Finset.eq_univ_iff_forall.mpr fun i => Finset.mem_biUnion.mpr ⟨i 0, Finset.mem_univ _, mem_rowSet.mpr rfl⟩

/-- The matrix view of a row of a whole buffer covers the row's entries. -/
theorem block_set_o (k : Fin 16) (o : Fin 3 → ℕ) (ho : o = ![k.val, 0, 0]) (h) : (blockAt oM o h).view.set = rowSet k := by
  subst ho
  exact (Memref.set_view_squeeze _ _).trans (View.set_slice_whole _ _)
theorem block_set_y (k : Fin 16) (o : Fin 3 → ℕ) (ho : o = ![k.val, 0, 0]) (h) : (blockAt yM o h).view.set = rowSet k := by
  subst ho
  exact (Memref.set_view_squeeze _ _).trans (View.set_slice_whole _ _)

variable {F : FTy → Type}

/-- The buffer whose row `k` is `g k`. -/
def pack (g : Fin 16 → FVec F S1x64x64 .f32) : S16x64x64.Idx → Elt F .f32 := fun i => g (i 0) (within i)

theorem pack_emb (g : Fin 16 → FVec F S1x64x64 .f32) (k : Fin 16) (x : S1x64x64.Idx) : pack g ((rowRect k).emb x) = g k x := by
  unfold pack; rw [emb_zero, within_emb]

/-- A load of row `k` reads it. -/
theorem read_row_y (g : Fin 16 → FVec F S1x64x64 .f32) (k : Fin 16) :
    yM.view.readAt (Elt F) (rowRect k).toLoadRect (pack g) = g k := funext fun x => pack_emb g k x

/-- A store of `w` to row `k` leaves `w` in it. -/
theorem write_row_y (f : S16x64x64.Idx → Elt F .f32) (g : Fin 16 → FVec F S1x64x64 .f32) (k : Fin 16) :
    ∀ i ∈ rowSet k, (yM.access (rowRect k)).write (Elt F) f (g k) Finset.univ i = pack g i := by
  intro i hi
  obtain rfl := mem_rowSet.mp hi
  have h := View.write_emb_of_mem (v := yM.access (rowRect (i 0))) (Val := Elt F) f (g (i 0)) (Finset.mem_univ (within i))
  have e : (yM.access (rowRect (i 0))).emb (within i) = i := emb_within i
  rw [e] at h
  exact h
theorem write_row_o (f : S16x64x64.Idx → Elt F .f32) (g : Fin 16 → FVec F S1x64x64 .f32) (k : Fin 16) :
    ∀ i ∈ rowSet k, (oM.access (rowRect k)).write (Elt F) f (g k) Finset.univ i = pack g i := by
  intro i hi
  obtain rfl := mem_rowSet.mp hi
  have h := View.write_emb_of_mem (v := oM.access (rowRect (i 0))) (Val := Elt F) f (g (i 0)) (Finset.mem_univ (within i))
  have e : (oM.access (rowRect (i 0))).emb (within i) = i := emb_within i
  rw [e] at h
  exact h

/-- A transfer of row `t` of a buffer with rows `g` into row `s` leaves `g t` there. -/
theorem write_transfer (f : S16x64x64.Idx → Elt F .f32) (g g' : Fin 16 → FVec F S1x64x64 .f32) (t s : Fin 16) (hg : g' s = g t)
    (o o' : Fin 3 → ℕ) (ho : o = ![t.val, 0, 0]) (ho' : o' = ![s.val, 0, 0]) (h h') :
    ∀ i ∈ rowSet s, (blockAt oM o' h').view.write (Elt F) f ((blockAt yM o h).view.read (Elt F) (pack g)) Finset.univ i = pack g' i := by
  subst ho ho'
  intro i hi
  rw [← block_set_o s _ rfl h'] at hi
  obtain ⟨j, -, rfl⟩ := Finset.mem_map.mp hi
  refine (View.write_emb_of_mem (v := (blockAt oM ![s.val, 0, 0] h').view) (Val := Elt F) f _ (Finset.mem_univ j)).trans ?_
  show pack g ((rowRect t).emb (Shape.reshapeEquiv squeezes_S1x64x64_S64x64.numel_eq j))
    = pack g' ((rowRect s).emb (Shape.reshapeEquiv squeezes_S1x64x64_S64x64.numel_eq j))
  rw [pack_emb, pack_emb, hg]

end Cert.AllToAll

end
-- ==== Proof.Protocol.lean ====
/-
# The protocol

Sixteen devices; device `c` computes its activations and sends row `t` of them to device `t`.

* **Barrier cell of `c`** (the runtime's barrier semaphore). Sixteen duties of one unit, named by their payer `p`:
  device `p` signals it once. With the unit comes row `c` of `p`'s result staging buffer, at whatever contents,
  when `p ≠ c`; device `c`'s own unit brings nothing. Device `c` waits for all sixteen, and so holds a row on every
  other device to write to.
* **Send cell `s ≥ 1` of `c`**. One duty of a block's credit, paid by `c`'s own transfer to the device `s` places
  on; with it the scratch row that was read comes back. Device `c` waits for it.
* **Receive cell `s ≠ c` of `c`**. One duty of a block's credit, paid by the transfer of device `s`; with it comes
  row `s` of `c`'s result staging buffer, holding what device `s` computed for `c`. Device `c` waits for it.
* **Send cell `0` and receive cell `c` of `c`** are never used: they have no duty.

At the start `c` owes one unit to every barrier cell and a block's credit to receive cell `c` of every other device.
The barrier cells are at level 1, the receive cells at level 2 and the other cells at level 0: at its barrier wait
a device owes receive credits only, and at its later waits nothing.
-/
module

public import proofs.«01_k».proof.Proof.Rows
public import proofs.«01_k».proof.Proof.Gen.KernelIdeal.Launch

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds beside this protocol's, whose duties are named by devices -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: the given contents, every semaphore at zero. -/
def s₀ : MemSt nD τ sig (Elt F) := ⟨m, fun _ => 0, ρ⟩

/-! ## Devices at a distance -/

/-- The device `s` places on from `c`. -/
def ahead (c : Dev nD) (s : Fin 16) : Dev nD := ⟨(c.val + s.val) % 16, Nat.mod_lt _ (by decide)⟩
/-- The device `k + 1` places back from `c`. -/
def back (c : Dev nD) (k : Fin 15) : Dev nD := ⟨(c.val + 15 - k.val) % 16, Nat.mod_lt _ (by decide)⟩

theorem peer_eq (c : Dev nD) (k : Fin 15) : peer c k = ahead c k.succ := by
  apply Fin.ext
  have h : ∀ k : Fin 15, (peer c k).val = (c.val + k.val + 1) % 16 := by
    intro k
    match k with
    | ⟨0, _⟩ => exact k0_dev17_eq c
    | ⟨1, _⟩ => exact k0_dev18_eq c
    | ⟨2, _⟩ => exact k0_dev19_eq c
    | ⟨3, _⟩ => exact k0_dev20_eq c
    | ⟨4, _⟩ => exact k0_dev21_eq c
    | ⟨5, _⟩ => exact k0_dev22_eq c
    | ⟨6, _⟩ => exact k0_dev23_eq c
    | ⟨7, _⟩ => exact k0_dev24_eq c
    | ⟨8, _⟩ => exact k0_dev25_eq c
    | ⟨9, _⟩ => exact k0_dev26_eq c
    | ⟨10, _⟩ => exact k0_dev27_eq c
    | ⟨11, _⟩ => exact k0_dev28_eq c
    | ⟨12, _⟩ => exact k0_dev29_eq c
    | ⟨13, _⟩ => exact k0_dev30_eq c
    | ⟨14, _⟩ => exact k0_dev31_eq c
  exact h k

theorem ahead_ne : ∀ (c : Dev nD) (k : Fin 15), ahead c k.succ ≠ c := by decide
theorem back_ne : ∀ (c : Dev nD) (k : Fin 15), back c k ≠ c := by decide
theorem ahead_injective : ∀ (c : Dev nD), Function.Injective fun k : Fin 15 => ahead c k.succ := by decide
theorem back_injective : ∀ (c : Dev nD), Function.Injective (back c) := by decide
theorem ahead_surjective : ∀ (c t : Dev nD), t ≠ c → ∃ k : Fin 15, ahead c k.succ = t := by decide
theorem back_surjective : ∀ (c t : Dev nD), t ≠ c → ∃ k : Fin 15, back c k = t := by decide

/-! ## The cells -/

theorem slot16_inb (s : Fin 16) : ∀ a, (![s.val] : Fin 1 → ℕ) a + S1.size a ≤ S16.size a := by revert s; decide

abbrev sendS (s : Fin 16) : DmaSem sig := semAt cc0_scratch1 ![s.val] (slot16_inb s)
abbrev recvS (s : Fin 16) : DmaSem sig := semAt cc0_scratch2 ![s.val] (slot16_inb s)

/-- The kernel's own semaphores; and with the barrier all the semaphores of the protocol on one device. -/
abbrev osem : Fin 16 ⊕ Fin 16 → SemLoc sig
  | .inl s => .dma (sendS s)
  | .inr s => .dma (recvS s)
abbrev Kind : Type := Unit ⊕ (Fin 16 ⊕ Fin 16)
abbrev csem : Kind → SemLoc sig
  | .inl _ => .reg barS
  | .inr k => osem k

abbrev kcell (ck : Dev nD × Kind) : GSem nD τ sig := ((ck.1 : Thread nD τ), csem ck.2)
abbrev barCell (c : Dev nD) : GSem nD τ sig := kcell (c, .inl ())
abbrev sendCell (c : Dev nD) (s : Fin 16) : GSem nD τ sig := kcell (c, .inr (.inl s))
abbrev recvCell (c : Dev nD) (s : Fin 16) : GSem nD τ sig := kcell (c, .inr (.inr s))

theorem osem_injective : Function.Injective osem := by decide
theorem csem_injective : Function.Injective csem := by
  rintro (_ | k) (_ | k') h
  · rfl
  · rcases k' with s | s <;> cases h
  · rcases k with s | s <;> cases h
  · exact congrArg _ (osem_injective h)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

open Classical in
/-- Which semaphore of the protocol a semaphore is, if it is one. -/
def kindOf (l : SemLoc sig) : Option Kind := if h : ∃ k, csem k = l then some h.choose else none

theorem kindOf_csem (k : Kind) : kindOf (csem k) = some k := by
  unfold kindOf
  have h : ∃ k', csem k' = csem k := ⟨k, rfl⟩
  rw [dif_pos h, csem_injective h.choose_spec]

/-! ## Contents -/

/-- The blocks of the two operands on device `c`, as its kernel loads them. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The activations of device `c`. -/
def act (c : Dev nD) : FVec F S64x1024 .f32 := k0_pay1 (xstg m ρ c) (wstg m ρ c)

/-- The scratch buffer of `c` once filled: row `t` holds columns `64t` to `64t + 63` of its activations. -/
def yRows (c : Dev nD) (t : Fin 16) : FVec F S1x64x64 .f32 := colsOf t (act m ρ c)
def yBuf (c : Dev nD) : S16x64x64.Idx → Elt F .f32 := pack (yRows m ρ c)
/-- The result of `c`: row `s` holds columns `64c` to `64c + 63` of the activations of device `s`. -/
def oRows (c : Dev nD) (s : Fin 16) : FVec F S1x64x64 .f32 := colsOf c (act m ρ s)
def oBuf (c : Dev nD) : S16x64x64.Idx → Elt F .f32 := pack (oRows m ρ c)

/-- Row `k` of the scratch buffer of `c` holds `f` there; -/
def yRow (c : Dev nD) (k : Fin 16) (f : Buf (Elt F) ((c : Thread nD τ).loc cc0_scratch0)) : sProp 𝕄 :=
  ((c : Thread nD τ).loc cc0_scratch0) ↦[rowSet k]{fullShare} f
/-- row `k` of its result staging buffer likewise. -/
def oRow (c : Dev nD) (k : Fin 16) (f : Buf (Elt F) ((c : Thread nD τ).loc cc0_stg2_0)) : sProp 𝕄 :=
  ((c : Thread nD τ).loc cc0_stg2_0) ↦[rowSet k]{fullShare} f

instance yRow_storable (c : Dev nD) (k) (f) : BI.Storable (upEmb : UEmb _ 𝕄) (yRow (F := F) c k f) := by unfold yRow; infer_instance
instance oRow_storable (c : Dev nD) (k) (f) : BI.Storable (upEmb : UEmb _ 𝕄) (oRow (F := F) c k f) := by unfold oRow; infer_instance

/-! ## The schedule -/

/-- A block's credit. -/
abbrev N : ℕ := (blockAt oM ![0, 0, 0] (row_inb 0)).view.dmaCredit
theorem N_pos : 0 < N := View.dmaCredit_pos _ (by decide)

/-- What comes with `p`'s unit on the barrier of `c`. -/
def barPay (c p : Dev nD) : sProp 𝕄 := if p = c then iprop(emp) else iprop(∃ f, oRow p c f)
instance barPay_storable (c p : Dev nD) : BI.Storable (upEmb : UEmb _ 𝕄) (barPay (F := F) c p) := by
  unfold barPay; split <;> infer_instance

/-- The duties of each semaphore of the protocol on device `c`; -/
def dutiesOf (c : Dev nD) : Kind → Finset (Fin 16)
  | .inl _ => Finset.univ
  | .inr (.inl s) => if s = 0 then ∅ else {0}
  | .inr (.inr s) => if s = c then ∅ else {0}
/-- their amounts; -/
def amountOf : Kind → ℕ
  | .inl _ => 1
  | .inr _ => N
/-- what comes with them. -/
def payOf (c : Dev nD) (d : Fin 16) : Kind → sProp 𝕄
  | .inl _ => barPay c d
  | .inr (.inl s) => yRow c (ahead c s) (yBuf m ρ c)
  | .inr (.inr s) => oRow c s (oBuf m ρ c)

theorem amountOf_pos (k : Kind) : 0 < amountOf k := by
  rcases k with _ | _
  · exact Nat.one_pos
  · exact N_pos
instance payOf_storable (c : Dev nD) (d : Fin 16) (k : Kind) : BI.Storable (upEmb : UEmb _ 𝕄) (payOf m ρ c d k) := by
  rcases k with _ | (s | s) <;> (unfold payOf; infer_instance)

/-- One round, of those duties. -/
def sched : Rounds.Schedule (GSem nD τ sig) (Fin 16) 𝕄 where
  duties g r := if r = 0 ∧ g.1.2 = .tc then (kindOf g.2).elim ∅ (dutiesOf g.1.1) else ∅
  unitless _ := False
  amount g _ _ := (kindOf g.2).elim 1 amountOf
  payload g _ d := (kindOf g.2).elim iprop(emp) (payOf m ρ g.1.1 d)
  amount_pos g _ _ _ := by
    cases kindOf g.2 with
    | none => exact Nat.one_pos
    | some k => exact amountOf_pos k

instance sched_storable (g : GSem nD τ sig) (r : ℕ) (d : Fin 16) : BI.Storable (upEmb : UEmb _ 𝕄) ((sched m ρ).payload g r d) := by
  show BI.Storable upEmb ((kindOf g.2).elim iprop(emp) (payOf m ρ g.1.1 d))
  cases kindOf g.2 with
  | none => exact (inferInstance : BI.Storable upEmb (iprop(emp) : sProp 𝕄))
  | some k => exact payOf_storable m ρ g.1.1 d k

theorem sched_duties (c : Dev nD) (k : Kind) : (sched m ρ).duties (kcell (c, k)) 0 = dutiesOf c k := by
  dsimp only [sched]; rw [if_pos ⟨rfl, rfl⟩, kindOf_csem]; rfl
theorem sched_later (g : GSem nD τ sig) (r : ℕ) (hr : 1 ≤ r) : (sched m ρ).duties g r = ∅ := by
  dsimp only [sched]; rw [if_neg fun h => by omega]
theorem sched_amount (c : Dev nD) (k : Kind) (r : ℕ) (d : Fin 16) : (sched m ρ).amount (kcell (c, k)) r d = amountOf k := by
  dsimp only [sched]; rw [kindOf_csem]; rfl
theorem sched_payload (c : Dev nD) (k : Kind) (r : ℕ) (d : Fin 16) : (sched m ρ).payload (kcell (c, k)) r d = payOf m ρ c d k := by
  dsimp only [sched]; rw [kindOf_csem]; rfl

/-- What a cell expects in its round. -/
theorem sched_expect (c : Dev nD) (k : Kind) : (sched m ρ).expect (kcell (c, k)) 0 = (dutiesOf c k).card * amountOf k := by
  unfold Schedule.expect Schedule.amountOf
  rw [sched_duties, Finset.sum_congr rfl fun d _ => sched_amount m ρ c k 0 d, Finset.sum_const, smul_eq_mul]

theorem duties_send (c : Dev nD) (k : Fin 15) : dutiesOf c (.inr (.inl k.succ)) = {0} := by
  unfold dutiesOf; exact if_neg (Fin.succ_ne_zero k)
theorem duties_recv (c : Dev nD) {s : Fin 16} (h : s ≠ c) : dutiesOf c (.inr (.inr s)) = {0} := by
  unfold dutiesOf; exact if_neg h

/-- What the whole round of a cell with one duty brings; and that of a barrier. -/
theorem rest_one (c : Dev nD) (k : Kind) (h : dutiesOf c k = {0}) :
    bigSep ((sched m ρ).duties (kcell (c, k)) 0 \ ∅) (fun d => (sched m ρ).payload (kcell (c, k)) 0 d) = payOf m ρ c 0 k := by
  rw [Finset.sdiff_empty, sched_duties, h, bigSep_singleton, sched_payload]
theorem rest_bar (c : Dev nD) :
    bigSep ((sched m ρ).duties (barCell c) 0 \ ∅) (fun d => (sched m ρ).payload (barCell c) 0 d) = bigSep Finset.univ fun p : Fin 16 => barPay (F := F) c p := by
  rw [Finset.sdiff_empty, sched_duties]
  exact bigSep_congr fun d _ => sched_payload m ρ c (.inl ()) 0 d

/-! ## What each device owes at launch; the levels -/

/-- The receive credits device `c` owes; -/
def owedRecv (c : Dev nD) : CellTallies nD τ sig Unit := ∑ k : Fin 15, tallyAt (recvCell (ahead c k.succ) c) () N
/-- with the barrier units. -/
def O₀ (c : Dev nD) : CellTallies nD τ sig Unit := owedRecv c + ∑ p : Fin 16, tallyAt (barCell p) () 1

def L (g : GSem nD τ sig) : Finset Unit := if g.1.2 = .tc then {()} else ∅
def levelOf : Kind → ℕ
  | .inl _ => 1
  | .inr (.inl _) => 0
  | .inr (.inr _) => 2
def lv (g : GSem nD τ sig) (_ : Unit) : ℕ := (kindOf g.2).elim 0 levelOf

theorem lv_kcell (c : Dev nD) (k : Kind) (u : Unit) : lv (kcell (c, k)) u = levelOf k := by
  unfold lv; rw [kindOf_csem]; rfl
theorem L_of_ne (g : GSem nD τ sig) (h : g.1.2 ≠ .tc) : L g = ∅ := if_neg h
theorem L_tc (c : Dev nD) (sm : SemLoc sig) : L ((c : Thread nD τ), sm) = {()} := if_pos rfl

/-- A tally owed somewhere in a sum of tallies is owed by a summand. -/
theorem sum_tally_pos {n : ℕ} {g : Fin n → GSem nD τ sig} {a : ℕ} {x : GSem nD τ sig} {u : Unit}
    (h : 0 < (∑ k : Fin n, tallyAt (g k) () a : CellTallies nD τ sig Unit) x u) : ∃ k, x = g k := by
  by_contra hn
  push Not at hn
  rw [Finset.sum_apply, Finsupp.finset_sum_apply, Finset.sum_eq_zero fun k _ => by
    rw [tallyAt_apply, if_neg fun h' => hn k h'.1]] at h
  exact Nat.lt_irrefl 0 h

theorem owedRecv_pos {c : Dev nD} {g : GSem nD τ sig} {u : Unit} (h : 0 < owedRecv c g u) : ∃ k : Fin 15, g = recvCell (ahead c k.succ) c :=
  sum_tally_pos h
theorem O₀_pos {c : Dev nD} {g : GSem nD τ sig} {u : Unit} (h : 0 < O₀ c g u) :
    (∃ k : Fin 15, g = recvCell (ahead c k.succ) c) ∨ ∃ p : Fin 16, g = barCell p := by
  unfold O₀ at h
  rw [Pi.add_apply, Finsupp.add_apply] at h
  rcases Nat.eq_zero_or_pos (owedRecv c g u) with h0 | h0
  · rw [h0, Nat.zero_add] at h; exact .inr (sum_tally_pos h)
  · exact .inl (owedRecv_pos h0)

/-- A device may wait on a semaphore at level 0 whatever it owes of the above; -/
theorem mayWait_low (c : Dev nD) (sm : SemLoc sig) (h0 : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨_, rfl⟩ | ⟨_, rfl⟩ <;> exact Finset.mem_singleton_self _)
      (fun p hp => by rw [Finset.mem_singleton.mp hp]; exact h0.le)
      (fun g u hg => by
        rcases O₀_pos hg with ⟨_, rfl⟩ | ⟨_, rfl⟩
        · rw [lv_kcell]; exact Nat.two_pos
        · rw [lv_kcell]; exact Nat.one_pos)
  · rw [MayWait_zero]; iintro -; iempintro

/-- and on its barrier when it owes receive credits only. -/
theorem mayWait_bar (c : Dev nD) : (levAts L lv : sProp 𝕄) ⊢ MayWait (c : Thread nD τ) (.reg barS) () (owedRecv c) :=
  MayOwe.of_cut (L := L) (lev := lv) 1 (fun p hp => by rw [Finset.mem_singleton.mp hp, L_tc]; exact Finset.mem_singleton_self _)
    (fun g u hg => by obtain ⟨_, rfl⟩ := owedRecv_pos hg; exact Finset.mem_singleton_self _)
    (fun p hp => by rw [Finset.mem_singleton.mp hp]; exact (lv_kcell c (.inl ()) ()).le)
    (fun g u hg => by obtain ⟨_, rfl⟩ := owedRecv_pos hg; rw [lv_kcell]; exact Nat.one_lt_two)

end Cert.AllToAll

end
-- ==== Proof.Loop.lean ====
/-
# A rule for the loops

One rule for all five loops of the body: from a step that turns the `k`-th resource into the `k`-th result, the
loop turns all resources into all results. What is carried along may owe: each step then pays its own share.
-/
module

public import proofs.«01_k».proof.Proof.Protocol

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Program `p` run on device `c` ends as `K` says. -/
abbrev runs {α : Type} (c : Dev nD) (p : P F α) (K : α → sProp 𝕄) : sProp 𝕄 :=
  wp frame (wpE (defs₀ (F := F)) 𝒱₀ (c : Thread nD τ) none) Set.univ p K

/-- All of a nonempty family is its first and the others. -/
theorem all_succ {n : ℕ} (Φ : Fin (n + 1) → sProp 𝕄) :
    bigSep Finset.univ Φ = iprop(Φ 0 ∗ bigSep Finset.univ fun k : Fin n => Φ k.succ) := by
  rw [bigSep_univ_split 0]
  congr 1
  rw [show (Finset.univ : Finset (Fin (n + 1))).erase 0 = Finset.univ.map (Fin.succEmb n) from by
    ext k
    refine ⟨fun h => ?_, fun h => ?_⟩
    · obtain ⟨j, rfl⟩ := Fin.exists_succ_eq.mpr (Finset.ne_of_mem_erase h)
      exact Finset.mem_map_of_mem _ (Finset.mem_univ j)
    · obtain ⟨j, -, rfl⟩ := Finset.mem_map.mp h
      exact Finset.mem_erase.mpr ⟨Fin.succ_ne_zero j, Finset.mem_univ _⟩, bigSep_map]
  rfl

theorem each_runs (c : Dev nD) (J : CellTallies nD τ sig Unit → sProp 𝕄) :
    ∀ {n : ℕ} (f : Fin n → P F PUnit) (R T : Fin n → sProp 𝕄) (ω : Fin n → CellTallies nD τ sig Unit)
      (step : ∀ k O (K : PUnit → sProp 𝕄), iprop(J (O + ω k) ∗ R k ∗ ((J O ∗ T k) -∗ K ⟨⟩)) ⊢ runs c (f k) K)
      (O : CellTallies nD τ sig Unit) (K : PUnit → sProp 𝕄),
      iprop(J (O + ∑ k, ω k) ∗ bigSep Finset.univ R ∗ ((J O ∗ bigSep Finset.univ T) -∗ K ⟨⟩)) ⊢ runs c (each n f) K
  | 0, f, R, T, ω, step, O, K => by
    show _ ⊢ runs c (Prog.ret ⟨⟩) K
    unfold runs
    rw [wp_ret, Finset.univ_eq_empty, Finset.sum_empty, add_zero, bigSep_empty, bigSep_empty]
    iintro ⟨HJ, -, Hk⟩
    imodintro
    iapply Hk
    isplitl; · iexact HJ
    iempintro
  | n + 1, f, R, T, ω, step, O, K => by
    show _ ⊢ runs c (f 0 >>= fun _ => each n fun k => f k.succ) K
    unfold runs
    rw [wp_bind, Fin.sum_univ_succ, all_succ R, all_succ T,
      show O + (ω 0 + ∑ k : Fin n, ω k.succ) = (O + ∑ k : Fin n, ω k.succ) + ω 0 from by rw [add_comm (ω 0), add_assoc]]
    iintro ⟨HJ, ⟨HR, HRs⟩, Hk⟩
    iapply (step 0 (O + ∑ k : Fin n, ω k.succ) _)
    isplitl [HJ]; · iexact HJ
    isplitl [HR]; · iexact HR
    iintro ⟨HJ, HT⟩
    iapply (each_runs c J (fun k => f k.succ) (fun k => R k.succ) (fun k => T k.succ) (fun k => ω k.succ) (fun k => step k.succ) O K)
    isplitl [HJ]; · iexact HJ
    isplitl [HRs]; · iexact HRs
    iintro ⟨HJ, HTs⟩
    iapply Hk
    isplitl [HJ]; · iexact HJ
    isplitl [HT]; · iexact HT
    iexact HTs

/-- The rule for a loop that owes nothing of its own. -/
theorem each_runs_plain (c : Dev nD) (J : sProp 𝕄) {n : ℕ} (f : Fin n → P F PUnit) (R T : Fin n → sProp 𝕄)
    (step : ∀ k (K : PUnit → sProp 𝕄), iprop(J ∗ R k ∗ ((J ∗ T k) -∗ K ⟨⟩)) ⊢ runs c (f k) K) (K : PUnit → sProp 𝕄) :
    iprop(J ∗ bigSep Finset.univ R ∗ ((J ∗ bigSep Finset.univ T) -∗ K ⟨⟩)) ⊢ runs c (each n f) K :=
  each_runs c (fun _ => J) f R T (fun _ => 0) (fun k _ K => step k K) 0 K

/-- A family over the devices is the one of `c` and those at `f k`, when the `f k` are the others. -/
theorem split_at (c : Fin 16) (f : Fin 15 → Fin 16) (hf : Function.Injective f) (hne : ∀ k, f k ≠ c) (hs : ∀ t, t ≠ c → ∃ k, f k = t)
    (Φ : Fin 16 → sProp 𝕄) : bigSep Finset.univ Φ = iprop(Φ c ∗ bigSep Finset.univ fun k : Fin 15 => Φ (f k)) := by
  rw [bigSep_univ_split c]
  congr 1
  rw [show (Finset.univ : Finset (Fin 16)).erase c = Finset.univ.map ⟨f, hf⟩ from by
    ext t
    refine ⟨fun h => ?_, fun h => ?_⟩
    · obtain ⟨k, rfl⟩ := hs t (Finset.ne_of_mem_erase h)
      exact Finset.mem_map_of_mem _ (Finset.mem_univ k)
    · obtain ⟨k, -, rfl⟩ := Finset.mem_map.mp h
      exact Finset.mem_erase.mpr ⟨hne k, Finset.mem_univ _⟩, bigSep_map]
  rfl

theorem split_ahead (c : Dev nD) (Φ : Fin 16 → sProp 𝕄) :
    bigSep Finset.univ Φ = iprop(Φ c ∗ bigSep Finset.univ fun k : Fin 15 => Φ (ahead c k.succ)) :=
  split_at c (fun k => ahead c k.succ) (ahead_injective c) (ahead_ne c) (ahead_surjective c) Φ
theorem split_back (c : Dev nD) (Φ : Fin 16 → sProp 𝕄) :
    bigSep Finset.univ Φ = iprop(Φ c ∗ bigSep Finset.univ fun k : Fin 15 => Φ (back c k)) :=
  split_at c (back c) (back_injective c) (back_ne c) (back_surjective c) Φ

end Cert.AllToAll

end
-- ==== Proof.Steps.lean ====
/-
# The steps of the body

One theorem for each kind of statement, at any device and any trip of its loop.
-/
module

public import proofs.«01_k».proof.Proof.Loop
public import Idealize.ShloMosaic.Lib.Pipeline.Value

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What every device knows, and what it owes -/

/-- Every cell of the protocol is governed by the schedule, under the names `K`, and has reached its round. -/
def records (K : Dev nD × Kind → ℕ) : sProp 𝕄 :=
  iprop((bigSep Finset.univ fun ck => cellInv ER (sched m ρ) (K ck) (kcell ck)) ∗ bigSep Finset.univ fun ck => reached ER (kcell ck) 0)

instance records_persistent (K : Dev nD × Kind → ℕ) : BI.Persistent (records m ρ K) := by unfold records; infer_instance

theorem inv_of (K : Dev nD × Kind → ℕ) (c : Dev nD) (k : Kind) : records m ρ K ⊢ cellInv ER (sched m ρ) (K (c, k)) (kcell (c, k)) := by
  unfold records
  iintro ⟨HI, -⟩
  iapply (show (bigSep Finset.univ fun ck : Dev nD × Kind => (cellInv ER (sched m ρ) (K ck) (kcell ck) : sProp 𝕄))
    ⊢ cellInv ER (sched m ρ) (K (c, k)) (kcell (c, k)) from bigSep_elim (Finset.mem_univ (c, k))); iexact HI
theorem reached_of (K : Dev nD × Kind → ℕ) (c : Dev nD) (k : Kind) : records m ρ K ⊢ reached ER (kcell (c, k)) 0 := by
  unfold records
  iintro ⟨-, HR⟩
  iapply (show (bigSep Finset.univ fun ck : Dev nD × Kind => (reached ER (kcell ck) 0 : sProp 𝕄))
    ⊢ reached ER (kcell (c, k)) 0 from bigSep_elim (Finset.mem_univ (c, k))); iexact HR

/-- Device `c` owes `O`, whatever waits it has made. -/
def owing (c : Dev nD) (O : CellTallies nD τ sig Unit) : sProp 𝕄 := iprop(∃ W, owes (c : Thread nD τ) O W)

def known (K : Dev nD × Kind → ℕ) (c : Dev nD) (O : CellTallies nD τ sig Unit) : sProp 𝕄 := iprop(records m ρ K ∗ owing c O)

variable (K : Dev nD × Kind → ℕ) (c : Dev nD)

/-! ## Signals -/

theorem signal_step (p : Fin 16) (O : CellTallies nD τ sig Unit) (k : PUnit → sProp 𝕄) :
    iprop(known m ρ K c (O + tallyAt (barCell p) () 1) ∗ (dutyTok ER (barCell p) 0 c ∗ barPay p c) ∗ ((known m ρ K c O ∗ iprop(emp)) -∗ k ⟨⟩))
      ⊢ runs c (signal p) k := by
  unfold known owing signal semSignalWord runs
  iintro ⟨⟨#HI, ⟨%W, HO⟩⟩, ⟨Ht, Hp⟩, Hk⟩
  iapply (Rounds.wp_signal 𝒱₀ ER (sched m ρ) (c : Thread nD τ) none (dst := ((p : Dev nD) : Thread nD τ)) (κ := K (p, .inl ()))
      (d := c) (by rw [show (((p : Dev nD) : Thread nD τ), SemLoc.reg barS) = kcell (p, .inl ()) from rfl, sched_duties]; exact Finset.mem_univ _)
      ((sched_amount m ρ p (.inl ()) 0 c).trans rfl) () O rfl) $$ [HO Ht Hp]
  · isplitr; · iapply (inv_of m ρ K p (.inl ())); iexact HI
    isplitl [HO]; · iexact HO
    isplitl [Ht]; · iexact Ht
    isplitl [Hp]
    · iapply (Entails.of_eq (show barPay p c = _ from (sched_payload m ρ p (.inl ()) 0 c).symm)); iexact Hp
    iapply (reached_of m ρ K p (.inl ())); iexact HI
  iintro HO
  rw [wp_ret]; imodintro
  iapply Hk
  isplitl [HO]
  · isplitr; · iexact HI
    iexists W; iexact HO
  iempintro

/-! ## Filling the scratch buffer -/

theorem fill_step (k : Fin 16) (Q : PUnit → sProp 𝕄) :
    iprop(iprop(emp) ∗ (∃ f, yRow c k f) ∗ ((iprop(emp) ∗ yRow c k (yBuf m ρ c)) -∗ Q ⟨⟩)) ⊢ runs c (fill (act m ρ c) k) Q := by
  unfold fill runs yRow
  simp only [Prog.lift, Prog.bind_op, Prog.bind_ret]
  iintro ⟨-, ⟨%f, Hy⟩, Hk⟩
  iapply (wp_load_rect 𝒱₀ (c : Thread nD τ) none Set.univ (m := yM) (r := rowRect k) (View.set_slice_whole _ _).le) $$ Hy; iintro Hy
  iapply (wp_store 𝒱₀ (c : Thread nD τ) none Set.univ (m := yM) (r := rowRect k) (Mk := Finset.univ) (View.set_slice_whole _ _).le) $$ Hy; iintro Hy
  rw [wp_ret]; imodintro
  iapply Hk
  isplitr; · iempintro
  iapply (Entails.of_eq (pointsTo_congr (write_row_y f (yRows m ρ c) k))); iexact Hy

/-! ## The transfers -/

theorem sem_send (k : Fin 15) (h) : semAt cc0_scratch1 ![k.val + 1] h = sendS k.succ := rfl
theorem sem_recv (s : Fin 16) (o : Fin 1 → ℕ) (ho : o = ![s.val]) (h) : semAt cc0_scratch2 o h = recvS s := by subst ho; rfl

theorem off3_eq (k : Fin 15) : k0_off3 c (BitVec.ofNat 32 (1 + k.val)) = ![(ahead c k.succ).val, 0, 0] := by
  rw [k0_off3_eq]; rfl
theorem off5_eq (k : Fin 15) : k0_off5 c (BitVec.ofNat 32 (1 + k.val)) = ![(back c k).val] := by
  rw [k0_off5_eq]; rfl

/-- What comes back with a transfer that has left: the row read. -/
theorem pay_send (k : Fin 15) (d : Fin 16) : payOf m ρ c d (.inr (.inl k.succ)) = yRow c (ahead c k.succ) (yBuf m ρ c) := rfl
/-- What comes with the transfer of device `s`: row `s`. -/
theorem pay_recv (t : Dev nD) (d s : Fin 16) : payOf m ρ t d (.inr (.inr s)) = oRow t s (oBuf m ρ t) := rfl

/-- A transfer of row `t` of the scratch buffer to row `c` of device `t`, wherever its text gets these numbers from. -/
theorem transfer (k : Fin 15) (t n : Dev nD) (ht : t = ahead c k.succ) (hn : n = t) (o o' : Fin 3 → ℕ) (ho : o = ![t.val, 0, 0]) (ho' : o' = ![c.val, 0, 0])
    (h h') (q : DmaSem sig) (hq : q = recvS c)
    {hsc : (blockAt oM o' h' : Memref sig (Dev.tc n : Thread nD τ).2.kind .vmem S64x64 .f32).view.ref.isScScratch = false}
    {hsrc : (blockAt yM o h).view.WordExact} {hdst : (blockAt oM o' h').view.WordExact}
    {hsem : DmaTarget.Typed .vmem (.dma q) (.remote (Dev.tc n : Thread nD τ) (blockAt oM o' h') (.dma (sendS k.succ)) hsc)}
    (O : CellTallies nD τ sig Unit) (Q : PUnit → sProp 𝕄) :
    iprop(known m ρ K c (O + tallyAt (recvCell t c) () N)
        ∗ (yRow c t (yBuf m ρ c) ∗ (∃ f, oRow t c f) ∗ dutyTok ER (sendCell c k.succ) 0 0 ∗ dutyTok ER (recvCell t c) 0 0)
        ∗ ((known m ρ K c O ∗ cred (tallyAt (sendCell c k.succ) () N)) -∗ Q ⟨⟩))
      ⊢ runs c (Prog.lift (.enqueueDma (blockAt yM o h) (.remote (Dev.tc n : Thread nD τ) (blockAt oM o' h') (.dma (sendS k.succ)) hsc) (.dma q) hsrc hdst hsem)) Q := by
  subst hq hn
  have hne : c ≠ n := by subst ht; exact (ahead_ne c k).symm
  unfold known owing runs Prog.lift yRow oRow
  iintro ⟨⟨#HI, ⟨%W, HO⟩⟩, ⟨Hy, ⟨%f, Ho⟩, Hts, Htr⟩, Hk⟩
  have hy := block_set_y n o ho h
  have ho2 := block_set_o c o' ho' h'
  iapply (Rounds.wp_send_pointsTo 𝒱₀ ER (sched m ρ) (c : Thread nD τ) none (src := blockAt yM o h) (dst := blockAt oM o' h') (c' := (n : Thread nD τ))
      (κ₁ := K (c, .inr (.inl k.succ))) (κ₂ := K (n, .inr (.inr c))) (sS := .dma (sendS k.succ)) (sem := .dma (recvS c))
      (r₁ := 0) (r₂ := 0) (d₁ := 0) (d₂ := 0) (q := fullShare) (fs := yBuf m ρ c) (fd := f)
      (by rw [show (((c : Dev nD) : Thread nD τ), SemLoc.dma (sendS k.succ)) = kcell (c, .inr (.inl k.succ)) from rfl, sched_duties, duties_send]; exact Finset.mem_singleton_self _)
      (by rw [show (((n : Dev nD) : Thread nD τ), SemLoc.dma (recvS c)) = kcell (n, .inr (.inr c)) from rfl, sched_duties, duties_recv n hne]; exact Finset.mem_singleton_self _)
      () () N rfl (sched_amount m ρ c (.inr (.inl k.succ)) 0 0) (sched_amount m ρ n (.inr (.inr c)) 0 0) O rfl (W := W)
      (by
        rw [show (((c : Dev nD) : Thread nD τ), SemLoc.dma (sendS k.succ)) = kcell (c, .inr (.inl k.succ)) from rfl, sched_payload, pay_send, hy, ht]
        exact BI.Entails.refl _)
      (by
        rw [show (((n : Dev nD) : Thread nD τ), SemLoc.dma (recvS c)) = kcell (n, .inr (.inr c)) from rfl, sched_payload, pay_recv, ho2]
        exact Entails.of_eq (pointsTo_congr (write_transfer f (yRows m ρ c) (oRows m ρ n) n c rfl o o' ho ho' h h')))) $$ [HO Hy Ho Hts Htr]
  · isplitr; · iapply (inv_of m ρ K c (.inr (.inl k.succ))); iexact HI
    isplitr; · iapply (inv_of m ρ K n (.inr (.inr c))); iexact HI
    isplitl [Hy]; · rw [hy]; iexact Hy
    isplitl [Ho]; · rw [ho2]; iexact Ho
    isplitl [HO]; · iexact HO
    isplitl [Hts]; · iexact Hts
    isplitr; · iapply (reached_of m ρ K c (.inr (.inl k.succ))); iexact HI
    isplitl [Htr]; · iexact Htr
    iapply (reached_of m ρ K n (.inr (.inr c))); iexact HI
  iintro ⟨Hc, HO⟩
  rw [wp_ret]; imodintro
  iapply Hk
  isplitl [HO]
  · isplitr; · iexact HI
    iexists W; iexact HO
  iexact Hc

theorem send_step (k : Fin 15) (O : CellTallies nD τ sig Unit) (Q : PUnit → sProp 𝕄) :
    iprop(known m ρ K c (O + tallyAt (recvCell (ahead c k.succ) c) () N)
        ∗ (yRow c (ahead c k.succ) (yBuf m ρ c) ∗ (∃ f, oRow (ahead c k.succ) c f) ∗ dutyTok ER (sendCell c k.succ) 0 0 ∗ dutyTok ER (recvCell (ahead c k.succ) c) 0 0)
        ∗ ((known m ρ K c O ∗ cred (tallyAt (sendCell c k.succ) () N)) -∗ Q ⟨⟩))
      ⊢ runs c (send c k) Q :=
  transfer m ρ K c k (ahead c k.succ) (peer c k) rfl (peer_eq c k) _ _ (off3_eq c k) (k0_off2_eq c) _ _ _ (sem_recv c _ (k0_off1_eq c) _) O Q

/-! ## The own row -/

theorem cast_cast (v : FVec F S1x64x64 .f32) : k0_pay21 (k0_pay20 v) = v :=
  shapeCast_shapeCast v shapeCasts_S1x64x64_S64x64 shapeCasts_S64x64_S1x64x64

/-- The own row as loaded, through the two shape casts and stored. -/
theorem own_written (f : S16x64x64.Idx → Elt F .f32) : ∀ i ∈ rowSet c,
    (oM.access (rowRect c)).write (Elt F) f (k0_pay21 (k0_pay20 ((yM.access (rowRect c)).read (Elt F) (yBuf m ρ c)))) Finset.univ i = oBuf m ρ c i := by
  have h : k0_pay21 (k0_pay20 ((yM.access (rowRect c)).read (Elt F) (yBuf m ρ c))) = oRows m ρ c c :=
    (cast_cast _).trans (funext fun x => pack_emb (yRows m ρ c) c x)
  rw [h]
  exact write_row_o f (oRows m ρ c) c

/-- The loads and the store of the device's own row, wherever their text gets its number from. -/
theorem keep_step (f : Buf (Elt F) ((c : Thread nD τ).loc cc0_stg2_0)) (Q : PUnit → sProp 𝕄) :
    iprop(yRow c c (yBuf m ρ c) ∗ oRow c c f ∗ ((yRow c c (yBuf m ρ c) ∗ oRow c c (oBuf m ρ c)) -∗ Q ⟨⟩)) ⊢ runs c (keep c) Q := by
  have key : ∀ (o : Fin 3 → ℕ) (ho : o = ![c.val, 0, 0]) (h : ∀ a, o a + S1x64x64.size a ≤ S16x64x64.size a),
      iprop(yRow c c (yBuf m ρ c) ∗ oRow c c f ∗ ((yRow c c (yBuf m ρ c) ∗ oRow c c (oBuf m ρ c)) -∗ Q ⟨⟩))
        ⊢ runs c (Prog.lift (.load yM (Rect.unit (s := S16x64x64) o S1x64x64.size h).toLoadRect (View.loadsAt_vmem h_S1x64x64)) >>= fun v =>
            Prog.lift (.load oM (Rect.unit (s := S16x64x64) o S1x64x64.size h).toLoadRect (View.loadsAt_vmem h_S1x64x64)) >>= fun _ =>
            Prog.lift (.store oM (Rect.unit (s := S16x64x64) o S1x64x64.size h) (k0_pay21 (k0_pay20 v)) Finset.univ (View.stores_vmem_bits_univ h_S1x64x64 rfl) (.inl rfl))) Q := by
    intro o ho h
    subst ho
    unfold runs yRow oRow
    simp only [Prog.lift, Prog.bind_op, Prog.bind_ret]
    iintro ⟨Hy, Ho, Hk⟩
    iapply (wp_load_rect 𝒱₀ (c : Thread nD τ) none Set.univ (m := yM) (r := rowRect c) (View.set_slice_whole _ _).le) $$ Hy; iintro Hy
    iapply (wp_load_rect 𝒱₀ (c : Thread nD τ) none Set.univ (m := oM) (r := rowRect c) (View.set_slice_whole _ _).le) $$ Ho; iintro Ho
    iapply (wp_store 𝒱₀ (c : Thread nD τ) none Set.univ (m := oM) (r := rowRect c) (Mk := Finset.univ) (View.set_slice_whole _ _).le) $$ Ho; iintro Ho
    rw [wp_ret]; imodintro
    iapply Hk
    isplitl [Hy]; · iexact Hy
    iapply (Entails.of_eq (pointsTo_congr (own_written m ρ c f))); iexact Ho
  exact key _ (k0_off4_eq c) _

/-! ## The waits for arrivals and departures -/

/-- A wait for the one duty of a cell: what comes with it, and the cell closed at zero. -/
theorem await (i : Fin 16 ⊕ Fin 16) (hi : dutiesOf c (.inr i) = {0}) (q : DmaSem sig) (hq : .dma q = osem i) (A B : Memref sig .tc .vmem S64x64 .f32)
    (hN : B.view.dmaCredit = N) {hA : A.view.WordExact} {hB : B.view.WordExact} (Q : PUnit → sProp 𝕄) :
    iprop(known m ρ K c 0 ∗ (cred (tallyAt (kcell (c, .inr i)) () N) ∗ atPos ER (kcell (c, .inr i)) 0 ∅ 0)
        ∗ ((known m ρ K c 0 ∗ (payOf m ρ c 0 (.inr i) ∗ semVal (kcell (c, .inr i)) 0)) -∗ Q ⟨⟩))
      ⊢ runs c (Prog.lift (.waitDma2 q A B hA hB)) Q := by
  have hcell : kcell (c, .inr i) = ((c : Thread nD τ), SemLoc.dma q) := Prod.ext rfl hq.symm
  have hexp : (sched m ρ).expect ((c : Thread nD τ), SemLoc.dma q) 0 = N := by
    rw [← hcell, sched_expect, hi, Finset.card_singleton, Nat.one_mul]; rfl
  have hrest : bigSep ((sched m ρ).duties ((c : Thread nD τ), SemLoc.dma q) 0 \ ∅) (fun d => (sched m ρ).payload ((c : Thread nD τ), SemLoc.dma q) 0 d)
      = payOf m ρ c 0 (.inr i) := by rw [← hcell]; exact rest_one m ρ c _ hi
  have hinv : records m ρ K ⊢ cellInv ER (sched m ρ) (K (c, .inr i)) ((c : Thread nD τ), SemLoc.dma q) := by
    rw [← hcell]; exact inv_of m ρ K c (.inr i)
  unfold known owing runs Prog.lift
  rw [hcell]
  iintro ⟨⟨#HI, ⟨%W, HO⟩⟩, ⟨Hc, Hat⟩, Hk⟩
  iapply (Rounds.wp_wait_rest_token 𝒱₀ ER (sched m ρ) (c : Thread nD τ) none (κ := K (c, .inr i))
      (wpE_waitDma2_eq 𝒱₀ (c : Thread nD τ) none Set.univ) (Set.mem_univ _) () (O := 0) (W := W) (R := 0) (m := 0) (T := ∅)
      (by rw [Nat.zero_add, hN, hexp])) $$ [Hc HO Hat]
  · isplitr; · iapply hinv; iexact HI
    isplitl [Hc]; · rw [hN]; iexact Hc
    isplitl [HO]; · iexact HO
    isplitr; · rw [MayWait_zero]; iempintro
    iexact Hat
  iintro ⟨HO, Hat, -, Hpay⟩
  ihave Hp := (Entails.of_eq hrest) $$ Hpay
  imod (Rounds.cell_close ER (sched m ρ) (Set.mem_univ (K (c, .inr i))) (fun h => h) (R := 0 + 1) (sched_later m ρ _)) $$ [Hat] with Hz
  · isplitr; · iapply hinv; iexact HI
    iexact Hat
  rw [wp_ret]; imodintro
  iapply Hk
  isplitl [HO]
  · isplitr; · iexact HI
    iexists _; iexact HO
  isplitl [Hp] <;> iassumption

/-- Every block has the same credit. -/
theorem credit_o (o : Fin 3 → ℕ) (h) : (blockAt oM o h).view.dmaCredit = N := rfl
theorem credit_y (o : Fin 3 → ℕ) (h) : (blockAt yM o h).view.dmaCredit = N := rfl

theorem awaitRecv_step (k : Fin 15) (Q : PUnit → sProp 𝕄) :
    iprop(known m ρ K c 0 ∗ (cred (tallyAt (recvCell c (back c k)) () N) ∗ atPos ER (recvCell c (back c k)) 0 ∅ 0)
        ∗ ((known m ρ K c 0 ∗ (oRow c (back c k) (oBuf m ρ c) ∗ semVal (recvCell c (back c k)) 0)) -∗ Q ⟨⟩))
      ⊢ runs c (awaitRecv c k) Q :=
  await m ρ K c (.inr (back c k)) (duties_recv c (back_ne c k)) (semAt cc0_scratch2 (k0_off5 c (BitVec.ofNat 32 (1 + k.val))) (k0_off5_inb c k))
    (congrArg SemLoc.dma (sem_recv (back c k) _ (off5_eq c k) _))
    (blockAt yM (k0_off6 c (BitVec.ofNat 32 (1 + k.val))) (k0_off6_inb c k)) (blockAt oM (k0_off6 c (BitVec.ofNat 32 (1 + k.val))) (k0_off6_inb c k))
    (credit_o _ _) Q

theorem awaitSent_step (k : Fin 15) (Q : PUnit → sProp 𝕄) :
    iprop(known m ρ K c 0 ∗ (cred (tallyAt (sendCell c k.succ) () N) ∗ atPos ER (sendCell c k.succ) 0 ∅ 0)
        ∗ ((known m ρ K c 0 ∗ (yRow c (ahead c k.succ) (yBuf m ρ c) ∗ semVal (sendCell c k.succ) 0)) -∗ Q ⟨⟩))
      ⊢ runs c (awaitSent c k) Q :=
  await m ρ K c (.inl k.succ) (duties_send c k) (semAt cc0_scratch1 ![k.val + 1] (slot_inb k)) (congrArg SemLoc.dma (sem_send k _))
    (blockAt oM (k0_off2 c) (k0_off2_inb c)) (blockAt yM (k0_off3 c (BitVec.ofNat 32 (1 + k.val))) (k0_off3_inb c k)) (credit_y _ _) Q

end Cert.AllToAll

end
-- ==== Proof.Stages.lean ====
/-
# The stages of the body

Each loop of the body at once, from all its resources to all its results: the step theorems under the loop rule.
-/
module

public import proofs.«01_k».proof.Proof.Steps
public import Idealize.ShloMosaic.Lib.Ring

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kind → ℕ) (c : Dev nD)

/-! ## Buffers row by row -/

/-- The scratch buffer held whole at some contents; -/
def yAny : sProp 𝕄 := iprop(∃ f : Buf (Elt F) ((c : Thread nD τ).loc cc0_scratch0), ((c : Thread nD τ).loc cc0_scratch0) ↦{fullShare} f)
/-- the result staging buffer likewise. -/
def oAny : sProp 𝕄 := iprop(∃ f : Buf (Elt F) ((c : Thread nD τ).loc cc0_stg2_0), ((c : Thread nD τ).loc cc0_stg2_0) ↦{fullShare} f)

theorem y_rows (f : Buf (Elt F) ((c : Thread nD τ).loc cc0_scratch0)) :
    (((c : Thread nD τ).loc cc0_scratch0) ↦{fullShare} f : sProp 𝕄) = bigSep Finset.univ fun k : Fin 16 => yRow c k f :=
  Ring.pointsTo_blocks (ℓ := (c : Thread nD τ).loc cc0_scratch0) rowSet rowSet_disjoint rowSet_cover f
theorem o_rows (f : Buf (Elt F) ((c : Thread nD τ).loc cc0_stg2_0)) :
    (((c : Thread nD τ).loc cc0_stg2_0) ↦{fullShare} f : sProp 𝕄) = bigSep Finset.univ fun k : Fin 16 => oRow c k f :=
  Ring.pointsTo_blocks (ℓ := (c : Thread nD τ).loc cc0_stg2_0) rowSet rowSet_disjoint rowSet_cover f

theorem yRow_any (k : Fin 16) (f : Buf (Elt F) ((c : Thread nD τ).loc cc0_scratch0)) : (yRow c k f : sProp 𝕄) ⊢ iprop(∃ f, yRow c k f) := by
  iintro H; iexists f; iexact H

/-! ## The handshake -/

/-- A row of device `c`'s result staging buffer is what its unit to another device's barrier brings. -/
theorem barPay_ne (p : Fin 16) (h : p ≠ c) (f : Buf (Elt F) ((c : Thread nD τ).loc cc0_stg2_0)) : oRow c p f ⊢ barPay (F := F) p c := by
  unfold barPay; rw [if_neg h.symm]
  iintro H; iexists f; iexact H
theorem barPay_own : (barPay (F := F) c c : sProp 𝕄) = iprop(emp) := by unfold barPay; exact if_pos rfl
theorem barPay_from (p : Fin 16) (h : p ≠ c) : (barPay (F := F) c p : sProp 𝕄) = iprop(∃ f, oRow p c f) := by unfold barPay; exact if_neg h

/-- The sixteen signals: every other device is given its row of the result staging buffer, the own row stays. -/
theorem signals_run (Q : PUnit → sProp 𝕄) :
    iprop(known m ρ K c (O₀ c) ∗ (bigSep Finset.univ fun p : Fin 16 => dutyTok ER (barCell p) 0 c) ∗ oAny c
        ∗ ((known m ρ K c (owedRecv c) ∗ ∃ f, oRow c c f) -∗ Q ⟨⟩))
      ⊢ runs c (each 16 signal) Q := by
  unfold O₀ oAny
  iintro ⟨HK, Ht, ⟨%f, Ho⟩, Hk⟩
  ihave Hr := (Entails.of_eq ((o_rows c f).trans (split_ahead c _))) $$ Ho
  icases Hr with ⟨Hown, Hr⟩
  ihave Hp := (show (bigSep Finset.univ fun k : Fin 15 => (oRow c (ahead c k.succ) f : sProp 𝕄)) ⊢ (bigSep Finset.univ fun p : Fin 16 => barPay (F := F) p c) from by
    rw [split_ahead c, barPay_own]
    iintro H
    isplitr; · iempintro
    iapply (show (bigSep Finset.univ fun k : Fin 15 => (oRow c (ahead c k.succ) f : sProp 𝕄)) ⊢ (bigSep Finset.univ fun k : Fin 15 => barPay (F := F) (ahead c k.succ) c)
      from bigSep_mono fun k _ => barPay_ne c _ (ahead_ne c k) f); iexact H) $$ Hr
  iapply (each_runs c (known m ρ K c) signal (fun p => iprop(dutyTok ER (barCell p) 0 c ∗ barPay p c)) (fun _ => iprop(emp))
    (fun p => tallyAt (barCell p) () 1) (signal_step m ρ K c) (owedRecv c) Q)
  isplitl [HK]; · iexact HK
  isplitl [Ht Hp]
  · rw [bigSep_sep']
    isplitl [Ht]; · iexact Ht
    iexact Hp
  iintro ⟨HK, -⟩
  iapply Hk
  isplitl [HK]; · iexact HK
  iexists f; iexact Hown

/-- The wait for all sixteen units: a row on every other device, and the barrier cell closed at zero. -/
theorem barrier_run (Q : PUnit → sProp 𝕄) :
    iprop(known m ρ K c (owedRecv c) ∗ levAts L lv ∗ cred (tallyAt (barCell c) () 16) ∗ atPos ER (barCell c) 0 ∅ 0
        ∗ ((known m ρ K c (owedRecv c) ∗ semVal (barCell c) 0 ∗ bigSep Finset.univ fun k : Fin 15 => iprop(∃ f, oRow (ahead c k.succ) c f)) -∗ Q ⟨⟩))
      ⊢ runs c (semWaitWord barS 16#32) Q := by
  unfold known owing runs semWaitWord
  iintro ⟨⟨#HI, ⟨%W, HO⟩⟩, Hlev, Hc, Hat, Hk⟩
  iapply (Rounds.wp_wait_rest_token 𝒱₀ ER (sched m ρ) (c : Thread nD τ) none (κ := K (c, .inl ()))
      (wpE_semWait_eq 𝒱₀ (c : Thread nD τ) none Set.univ) (Set.mem_univ _) () (O := owedRecv c) (W := W) (R := 0) (m := 0) (T := ∅)
      (by rw [sched_expect m ρ c (.inl ())]; rfl)) $$ [Hlev Hc HO Hat]
  · isplitr; · iapply (inv_of m ρ K c (.inl ())); iexact HI
    isplitl [Hc]; · iexact Hc
    isplitl [HO]; · iexact HO
    isplitl [Hlev]; · iapply (mayWait_bar c); iexact Hlev
    iexact Hat
  iintro ⟨HO, Hat, -, Hpay⟩
  ihave Hp := (Entails.of_eq ((rest_bar m ρ c).trans (split_ahead c _))) $$ Hpay
  icases Hp with ⟨-, Hp⟩
  imod (Rounds.cell_close ER (sched m ρ) (Set.mem_univ (K (c, .inl ()))) (fun h => h) (R := 0 + 1) (sched_later m ρ _)) $$ [Hat] with Hz
  · isplitr; · iapply (inv_of m ρ K c (.inl ())); iexact HI
    iexact Hat
  rw [wp_ret]; imodintro
  iapply Hk
  isplitl [HO]
  · isplitr; · iexact HI
    iexists _; iexact HO
  isplitl [Hz]; · iexact Hz
  iapply (Entails.of_eq (bigSep_congr fun (k : Fin 15) _ => barPay_from (F := F) c _ (ahead_ne c k))); iexact Hp

/-! ## The stores and the transfers -/

/-- The sixteen stores fill the scratch buffer with the activations, row by row. -/
theorem fills_run (Q : PUnit → sProp 𝕄) :
    iprop(yAny c ∗ ((bigSep Finset.univ fun k : Fin 16 => yRow c k (yBuf m ρ c)) -∗ Q ⟨⟩)) ⊢ runs c (each 16 (fill (act m ρ c))) Q := by
  unfold yAny
  iintro ⟨⟨%f, Hy⟩, Hk⟩
  ihave Hr := (Entails.of_eq (y_rows c f)) $$ Hy
  iapply (each_runs_plain c iprop(emp) (fill (act m ρ c)) (fun k => iprop(∃ f, yRow c k f)) (fun k => yRow c k (yBuf m ρ c)) (fill_step m ρ c) Q)
  isplitr; · iempintro
  isplitl [Hr]
  · iapply (show (bigSep Finset.univ fun k : Fin 16 => (yRow c k f : sProp 𝕄)) ⊢ (bigSep Finset.univ fun k : Fin 16 => iprop(∃ f, yRow c k f))
      from bigSep_mono fun k _ => yRow_any c k f); iexact Hr
  iintro ⟨-, H⟩
  iapply Hk; iexact H

/-- The fifteen transfers: every other device is paid its row. -/
theorem sends_run (Q : PUnit → sProp 𝕄) :
    iprop(known m ρ K c (owedRecv c)
        ∗ ((bigSep Finset.univ fun k : Fin 15 => yRow c (ahead c k.succ) (yBuf m ρ c)) ∗ (bigSep Finset.univ fun k : Fin 15 => iprop(∃ f, oRow (ahead c k.succ) c f))
          ∗ (bigSep Finset.univ fun k : Fin 15 => dutyTok ER (sendCell c k.succ) 0 0) ∗ bigSep Finset.univ fun k : Fin 15 => dutyTok ER (recvCell (ahead c k.succ) c) 0 0)
        ∗ ((known m ρ K c 0 ∗ bigSep Finset.univ fun k : Fin 15 => cred (tallyAt (sendCell c k.succ) () N)) -∗ Q ⟨⟩))
      ⊢ runs c (each 15 (send c)) Q := by
  rw [← bigSep_sep', ← bigSep_sep', ← bigSep_sep', show owedRecv c = 0 + ∑ k : Fin 15, tallyAt (recvCell (ahead c k.succ) c) () N from (zero_add _).symm]
  exact each_runs c (known m ρ K c) (send c) _ _ _ (send_step m ρ K c) 0 Q

/-! ## The waits -/

/-- The fifteen waits for what arrives. -/
theorem awaitRecvs_run (Q : PUnit → sProp 𝕄) :
    iprop(known m ρ K c 0
        ∗ ((bigSep Finset.univ fun k : Fin 15 => cred (tallyAt (recvCell c (back c k)) () N)) ∗ bigSep Finset.univ fun k : Fin 15 => atPos ER (recvCell c (back c k)) 0 ∅ 0)
        ∗ ((known m ρ K c 0 ∗ (bigSep Finset.univ fun k : Fin 15 => oRow c (back c k) (oBuf m ρ c)) ∗ bigSep Finset.univ fun k : Fin 15 => semVal (recvCell c (back c k)) 0) -∗ Q ⟨⟩))
      ⊢ runs c (each 15 (awaitRecv c)) Q := by
  rw [← bigSep_sep', ← bigSep_sep']
  exact each_runs_plain c (known m ρ K c 0) (awaitRecv c) _ _ (awaitRecv_step m ρ K c) Q

/-- The fifteen waits for what left. -/
theorem awaitSents_run (Q : PUnit → sProp 𝕄) :
    iprop(known m ρ K c 0
        ∗ ((bigSep Finset.univ fun k : Fin 15 => cred (tallyAt (sendCell c k.succ) () N)) ∗ bigSep Finset.univ fun k : Fin 15 => atPos ER (sendCell c k.succ) 0 ∅ 0)
        ∗ ((known m ρ K c 0 ∗ (bigSep Finset.univ fun k : Fin 15 => yRow c (ahead c k.succ) (yBuf m ρ c)) ∗ bigSep Finset.univ fun k : Fin 15 => semVal (sendCell c k.succ) 0) -∗ Q ⟨⟩))
      ⊢ runs c (each 15 (awaitSent c)) Q := by
  rw [← bigSep_sep', ← bigSep_sep']
  exact each_runs_plain c (known m ρ K c 0) (awaitSent c) _ _ (awaitSent_step m ρ K c) Q

/-! ## The cells of one device -/

/-- A family over the semaphores of the protocol on device `c`, by their use. -/
theorem split_kinds (Φ : Kind → sProp 𝕄) : bigSep Finset.univ Φ
    = iprop(Φ (.inl ()) ∗ (Φ (.inr (.inl 0)) ∗ bigSep Finset.univ fun k : Fin 15 => Φ (.inr (.inl k.succ)))
        ∗ (Φ (.inr (.inr c)) ∗ bigSep Finset.univ fun k : Fin 15 => Φ (.inr (.inr (back c k))))) := by
  rw [BI.bigSep_univ_sum, BI.bigSep_univ_sum, all_succ, split_back c, Finset.univ_unique, bigSep_singleton]
  rfl

/-- A cell without a duty closes at zero. -/
theorem close_unused (k : Kind) (h : dutiesOf c k = ∅) :
    iprop(records m ρ K ∗ atPos ER (kcell (c, k)) 0 ∅ 0) ⊢ |={Set.univ}=> semVal (kcell (c, k)) 0 := by
  iintro ⟨#HI, Hat⟩
  iapply (Rounds.cell_close ER (sched m ρ) (Set.mem_univ (K (c, k))) (fun h => h) (R := 0) (g := kcell (c, k)) (fun r _ => by
    rcases r with _ | r
    · exact (sched_duties m ρ c k).trans h
    · exact sched_later m ρ _ _ (Nat.succ_le_succ (Nat.zero_le r))))
  isplitr; · iapply (inv_of m ρ K c k); iexact HI
  iexact Hat

theorem unused_send : dutiesOf c (.inr (.inl 0)) = ∅ := by unfold dutiesOf; exact if_pos rfl
theorem unused_recv : dutiesOf c (.inr (.inr c)) = ∅ := by unfold dutiesOf; exact if_pos rfl

end Cert.AllToAll

end
-- ==== Proof.Body.lean ====
/-
# The body of one device

What a device starts from and ends with, and the body run from the one to the other, stage by stage.
-/
module

public import proofs.«01_k».proof.Proof.Stages

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- The tokens of the duties device `c` pays: a unit to every barrier, a credit to each of its own send cells and to
    its receive cell on every other device. -/
def payToks (c : Dev nD) : sProp 𝕄 :=
  iprop((bigSep Finset.univ fun p : Fin 16 => dutyTok ER (barCell p) 0 c) ∗ (bigSep Finset.univ fun k : Fin 15 => dutyTok ER (sendCell c k.succ) 0 0)
    ∗ bigSep Finset.univ fun k : Fin 15 => dutyTok ER (recvCell (ahead c k.succ) c) 0 0)

/-- Its positions and its tokens. -/
def linear (c : Dev nD) : sProp 𝕄 := iprop((bigSep Finset.univ fun k : Kind => atPos ER (kcell (c, k)) 0 ∅ 0) ∗ payToks c)

/-- Its credits: what the others owe it. -/
def credsOf (c : Dev nD) : sProp 𝕄 :=
  iprop(cred (tallyAt (barCell c) () 16) ∗ bigSep Finset.univ fun k : Fin 15 => cred (tallyAt (recvCell c (back c k)) () N))

def ghost (c : Dev nD) : sProp 𝕄 := iprop(∃ K, records m ρ K ∗ linear c)

def start (c : Dev nD) : sProp 𝕄 := iprop(ghost m ρ c ∗ credsOf c ∗ levAts L lv)

/-- Before the body: all that and the scratch buffer. After it: the scratch buffer and every semaphore at zero. -/
def Φ₀ (c : Dev nD) : sProp 𝕄 := iprop(start m ρ c ∗ yAny c)
def Φ₁ (c : Dev nD) : sProp 𝕄 := iprop(yAny (F := F) c ∗ bigSep Finset.univ fun k : Kind => semVal (kcell (c, k)) 0)

/-- The launch's data: the arrays as given; after the body the operands' staging buffers as loaded and the result's
    holding what was received. -/
def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => oBuf m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The run -/

variable (c : Dev nD)

theorem zeros : (![0, 0] : Fin 2 → Nat) = fun _ => 0 := funext fun a => by fin_cases a <;> rfl
theorem read_x (f : (cc0_stg0_0 : Ref sig .tc).ty.Contents (Elt F)) :
    xM.view.readAt (Elt F) (Rect.unit (s := S64x1024) ![0, 0] S64x1024.size inb_S64x1024_S64x1024_0_0).toLoadRect f = f :=
  Memref.readAt_unit_zero (Elt F) cc0_stg0_0 zeros _ f
theorem read_w (f : (cc0_stg1_0 : Ref sig .tc).ty.Contents (Elt F)) :
    wM.view.readAt (Elt F) (Rect.unit (s := S1024x1024) ![0, 0] S1024x1024.size inb_S1024x1024_S1024x1024_0_0).toLoadRect f = f :=
  Memref.readAt_unit_zero (Elt F) cc0_stg1_0 zeros _ f

abbrev xPts : sProp 𝕄 := ((c : Thread nD τ).loc cc0_stg0_0) ↦{fullShare} xstg m ρ c
abbrev wPts : sProp 𝕄 := ((c : Thread nD τ).loc cc0_stg1_0) ↦{fullShare} wstg m ρ c
abbrev oPts : sProp 𝕄 := ((c : Thread nD τ).loc cc0_stg2_0) ↦{fullShare} oBuf m ρ c

/-- The body run on device `c`. -/
theorem body_run (Q : PUnit → sProp 𝕄) :
    iprop(Φ₀ m ρ c ∗ owing c (O₀ c) ∗ xPts m ρ c ∗ wPts m ρ c ∗ oAny c
        ∗ ((Φ₁ c ∗ owing c 0 ∗ xPts m ρ c ∗ wPts m ρ c ∗ oPts m ρ c) -∗ Q ⟨⟩))
      ⊢ runs c body Q := by
  unfold Φ₀ start ghost linear payToks credsOf
  rw [split_kinds c]
  iintro ⟨⟨⟨⟨%K, #HI, ⟨HaB, ⟨HaS0, HaS⟩, HaV0, HaV⟩, HtB, HtS, HtV⟩, ⟨HcB, HcV⟩, Hlev⟩, Hy⟩, HO, Hx, Hw, Ho, Hk⟩
  unfold body runs
  simp only [Prog.lift, Prog.bind_op, Prog.bind_ret, wp_deviceId]
  -- the signals
  rw [wp_bind]
  iapply (signals_run m ρ K c)
  isplitl [HO]
  · unfold known; isplitr; · iexact HI
    iexact HO
  isplitl [HtB]; · iexact HtB
  isplitl [Ho]; · iexact Ho
  iintro ⟨HK, ⟨%f, Hown⟩⟩
  -- the wait for them
  rw [wp_bind]
  iapply (barrier_run m ρ K c)
  isplitl [HK]; · iexact HK
  isplitl [Hlev]; · iexact Hlev
  isplitl [HcB]; · iexact HcB
  isplitl [HaB]; · iexact HaB
  iintro ⟨HK, HzB, Hrows⟩
  -- the operands
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  -- the stores
  rw [wp_bind]
  iapply (fills_run m ρ c)
  isplitl [Hy]; · iexact Hy
  iintro Hy
  ihave Hy' := (Entails.of_eq (split_ahead c (fun k => yRow c k (yBuf m ρ c)))) $$ Hy
  icases Hy' with ⟨Hy0, Hy⟩
  -- the transfers
  rw [wp_bind]
  iapply (sends_run m ρ K c)
  isplitl [HK]; · iexact HK
  isplitl [Hy Hrows HtS HtV]
  · isplitl [Hy]; · iexact Hy
    isplitl [Hrows]; · iexact Hrows
    isplitl [HtS]; · iexact HtS
    iexact HtV
  iintro ⟨HK, HcS⟩
  -- the own row
  rw [wp_bind]
  iapply (keep_step m ρ c f)
  isplitl [Hy0]; · iexact Hy0
  isplitl [Hown]; · iexact Hown
  iintro ⟨Hy0, Ho0⟩
  -- the waits
  rw [wp_bind]
  iapply (awaitRecvs_run m ρ K c)
  isplitl [HK]; · iexact HK
  isplitl [HcV HaV]
  · isplitl [HcV]; · iexact HcV
    iexact HaV
  iintro ⟨HK, Ho, HzV⟩
  iapply (wp_fupd)
  iapply (awaitSents_run m ρ K c)
  isplitl [HK]; · iexact HK
  isplitl [HcS HaS]
  · isplitl [HcS]; · iexact HcS
    iexact HaS
  iintro ⟨HK, Hy, HzS⟩
  -- the unused cells
  imod (close_unused m ρ K c (.inr (.inl 0)) (unused_send c)) $$ [HaS0] with HzS0
  · isplitr; · iexact HI
    iexact HaS0
  imod (close_unused m ρ K c (.inr (.inr c)) (unused_recv c)) $$ [HaV0] with HzV0
  · isplitr; · iexact HI
    iexact HaV0
  imodintro
  iapply Hk
  unfold Φ₁
  isplitl [Hy0 Hy HzB HzS0 HzS HzV0 HzV]
  · isplitl [Hy0 Hy]
    · unfold yAny; iexists (yBuf m ρ c)
      rw [y_rows, split_ahead c]
      isplitl [Hy0]; · iexact Hy0
      iexact Hy
    · rw [split_kinds c]
      isplitl [HzB]; · iexact HzB
      isplitl [HzS0 HzS]
      · isplitl [HzS0]; · iexact HzS0
        iexact HzS
      isplitl [HzV0]; · iexact HzV0
      iexact HzV
  unfold known
  icases HK with ⟨-, HO⟩
  isplitl [HO]; · iexact HO
  isplitl [Hx]; · iexact Hx
  isplitl [Hw]; · iexact Hw
  unfold oPts
  rw [o_rows, split_back c]
  isplitl [Ho0]; · iexact Ho0
  iexact Ho

end Cert.AllToAll

end
-- ==== Proof.Region.lean ====
/-
# The body under the pipeline

The pipeline hands the body its staging buffers and takes them back; here the run of the body is put in the form
the launch asks for.
-/
module

public import proofs.«01_k».proof.Proof.Body

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The one grid point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 3) ∗ Φ (1 : Fin 3) ∗ Φ (2 : Fin 3)) := bigSep_W0 Φ

theorem fetch_x (t : Fin cfg0.N) : (cfg0.win (0 : Fin 3)).fetch t = true := by rw [fin_N t]; rfl
theorem fetch_w (t : Fin cfg0.N) : (cfg0.win (1 : Fin 3)).fetch t = true := by rw [fin_N t]; rfl

/-! ## The staging buffers -/

/-- Staging buffer `b` of device `c` holds `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_eq (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

def before (c : Dev nD) : sProp 𝕄 :=
  iprop(Φ₀ m ρ c ∗ (dats m ρ 0 c).owesAt () t₀.castSucc
    ∗ (∃ d, staged c cc0_stg0_0 ((dats m ρ 0 c).before (0 : Fin 3) t₀ d))
    ∗ (∃ d, staged c cc0_stg1_0 ((dats m ρ 0 c).before (1 : Fin 3) t₀ d))
    ∗ (∃ d, staged c cc0_stg2_0 ((dats m ρ 0 c).before (2 : Fin 3) t₀ d)))
def after (c : Dev nD) : sProp 𝕄 :=
  iprop(Φ₁ c ∗ (dats m ρ 0 c).owesAt () t₀.succ ∗ staged c cc0_stg0_0 (xstg m ρ c) ∗ staged c cc0_stg1_0 (wstg m ρ c) ∗ staged c cc0_stg2_0 (oBuf m ρ c))

theorem body_staged (c : Dev nD) : before m ρ c ⊢ runs c body (fun _ => after m ρ c) := by
  unfold before
  iintro ⟨HΦ, Ho, ⟨%d0, %g0, %hg0, Hx⟩, ⟨%d1, %g1, %hg1, Hw⟩, ⟨%d2, %g2, -, Hout⟩⟩
  have hx : g0 = xstg m ρ c := by rw [hg0]; unfold Pipeline.Dat.before; rw [if_pos (fetch_x t₀)]; rfl
  have hw : g1 = wstg m ρ c := by rw [hg1]; unfold Pipeline.Dat.before; rw [if_pos (fetch_w t₀)]; rfl
  subst hx hw
  unfold Pipeline.Dat.owesAt Pipeline.owesWithin
  icases Ho with ⟨%W, -, HO⟩
  rw [show (dats m ρ 0 c).owed t₀.castSucc = O₀ c from rfl]
  iapply (body_run m ρ c)
  isplitl [HΦ]; · iexact HΦ
  isplitl [HO]; · unfold owing; iexists W; iexact HO
  isplitl [Hx]; · iexact Hx
  isplitl [Hw]; · iexact Hw
  isplitl [Hout]; · unfold oAny; iexists g2; iexact Hout
  unfold owing after Pipeline.Dat.owesAt Pipeline.owesWithin
  iintro ⟨HΦ, ⟨%W', HO⟩, Hx, Hw, Ho⟩
  rw [show (dats m ρ 0 c).owed t₀.succ = 0 from rfl]
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

theorem body_printed (c : Dev nD) : before m ρ c
    ⊢ runs c (cc0_body (F := F) xM (Memref.isWhole_whole _) wM (Memref.isWhole_whole _) oM (Memref.isWhole_whole _) yM (Memref.isWhole_whole _)
        cc0_scratch1 cc0_scratch2) (fun _ => after m ρ c) := by
  rw [body_eq]
  exact body_staged m ρ c

set_option maxRecDepth 65536 in
/-- What the launch asks of the body. -/
theorem body_obligation (c : Dev nD) : Pipeline.BodyObligation (dats (F := F) m ρ 0 c) (defs₀ (F := F)) 𝒱₀ () Set.univ := fun t => by
  rw [fin_N t]
  rw [bigSep_W, bigSep_W]
  simp only [owns_eq]
  exact body_printed m ρ c

end Cert.AllToAll

end
-- ==== Proof.Launch.lean ====
/-
# The launch

The semaphores of the protocol become its cells, their tokens are dealt to the devices that pay with them, and the
launch's credits are what each device is owed.
-/
module

public import proofs.«01_k».proof.Proof.Region

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

def allCells : Finset (GSem nD τ sig) := Finset.univ.map ⟨kcell, kcell_injective⟩

/-- A device's cells' tokens: sixteen of its barrier, one of each other cell. -/
abbrev tokOf (cj : Dev nD × (Fin 16 ⊕ (Fin 16 ⊕ Fin 16))) : GSem nD τ sig × ℕ × Fin 16 := match cj.2 with
  | .inl d => (barCell cj.1, 0, d)
  | .inr k => (kcell (cj.1, .inr k), 0, 0)

theorem tokOf_injective : Function.Injective tokOf := by
  rintro ⟨c, d | k⟩ ⟨c', d' | k'⟩ h
  · have h1 := kcell_injective (congrArg Prod.fst h)
    have h2 : d = d' := congrArg (fun x : GSem nD τ sig × ℕ × Fin 16 => x.2.2) h
    exact Prod.ext (Prod.ext_iff.mp h1).1 (congrArg Sum.inl h2)
  · exact absurd (Prod.ext_iff.mp (kcell_injective (congrArg Prod.fst h))).2 (fun h' => by cases h')
  · exact absurd (Prod.ext_iff.mp (kcell_injective (congrArg Prod.fst h))).2 (fun h' => by cases h')
  · have h1 := Prod.ext_iff.mp (kcell_injective (congrArg Prod.fst h))
    exact Prod.ext h1.1 (congrArg Sum.inr (Sum.inr_injective h1.2))

def allToks : Finset (GSem nD τ sig × ℕ × Fin 16) := Finset.univ.map ⟨tokOf, tokOf_injective⟩

def u₀ : UU := (initOf (Pipeline.cells cfgs cellOf_inj) (Pipeline.launchToks cfgs cellOf_inj), initOf allCells allToks)

/-- The tokens of device `c`'s own cells. -/
def toks (c : Dev nD) : sProp 𝕄 :=
  iprop((bigSep Finset.univ fun d : Fin 16 => dutyTok ER (barCell c) 0 d) ∗ (bigSep Finset.univ fun s : Fin 16 => dutyTok ER (sendCell c s) 0 0)
    ∗ bigSep Finset.univ fun s : Fin 16 => dutyTok ER (recvCell c s) 0 0)

/-- The positions and marks of device `c`'s own cells. -/
def marks (c : Dev nD) : sProp 𝕄 := bigSep Finset.univ fun k : Kind => iprop(atPos ER (kcell (c, k)) 0 ∅ 0 ∗ reached ER (kcell (c, k)) 0)

/-- What the launch deals device `c`. -/
def G (c : Dev nD) : sProp 𝕄 :=
  iprop((bigSep Finset.univ fun k : Kind => roundState ER (sched m ρ) (kcell (c, k)) 0) ∗ marks c ∗ toks c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Kind => Φ (kcell (c, k)) := by
    unfold allCells; rw [bigSep_map, BI.bigSep_univ_prod]; rfl
  have hT : bigSep allToks (fun x => (dutyTok ER x.1 x.2.1 x.2.2 : sProp 𝕄)) = bigSep Finset.univ fun c : Dev nD => toks c := by
    unfold allToks; rw [bigSep_map, BI.bigSep_univ_prod]
    exact bigSep_congr fun c _ => by unfold toks; rw [BI.bigSep_univ_sum, BI.bigSep_univ_sum]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G marks; simp only [bigSep_sep']
  isplitl [Hst']; · iexact Hst'
  isplitl [Hat' Hr']
  · isplitl [Hat'] <;> iassumption
  iexact Htok'

/-! ## The semaphores become cells -/

/-- The barrier is the one semaphore that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) : (bigSep Finset.univ fun k : Kind => semVal (kcell (c, k)) 0 : sProp 𝕄)
    = iprop(unscopedSems0 c ∗ Pipeline.ownSems0 (Ix := Unit) (Name := ℕ) (U := UU) (Lvl := ℕ) (Val := Elt F) (τ := τ) osem c) := by
  rw [unscopedSems0_eq, BI.bigSep_univ_sum, Finset.univ_unique, bigSep_singleton]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k)))) ∗ marks c ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Kind => semVal (kcell (c, k)) 0) ∗ bigSep Finset.univ fun k : Kind => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem drop_left (A B : sProp 𝕄) : iprop(A ∗ B) ⊢ B := by
  iintro ⟨-, H⟩; iexact H

/-- The tokens dealt out: the token of `d` at the barrier of `c` to `d`, the token of receive cell `s` of `c` to `s`. -/
theorem toks_dealt : (bigSep Finset.univ fun c : Dev nD => (toks c : sProp 𝕄)) ⊢ bigSep Finset.univ fun c : Dev nD => payToks c := by
  have hs : (bigSep Finset.univ fun c : Dev nD => bigSep Finset.univ fun s : Fin 16 => (dutyTok ER (sendCell c s) 0 0 : sProp 𝕄))
      ⊢ bigSep Finset.univ fun c : Dev nD => bigSep Finset.univ fun k : Fin 15 => dutyTok ER (sendCell c k.succ) 0 0 :=
    bigSep_mono fun c _ => by rw [all_succ]; exact drop_left _ _
  have hr : (bigSep Finset.univ fun c : Dev nD => bigSep Finset.univ fun s : Fin 16 => (dutyTok ER (recvCell c s) 0 0 : sProp 𝕄))
      ⊢ bigSep Finset.univ fun c : Dev nD => bigSep Finset.univ fun k : Fin 15 => dutyTok ER (recvCell (ahead c k.succ) c) 0 0 := by
    rw [BI.bigSep_univ_comm]
    exact bigSep_mono fun s _ => by rw [split_ahead s]; exact drop_left _ _
  unfold toks payToks
  rw [bigSep_sep', bigSep_sep', bigSep_sep', bigSep_sep',
    BI.bigSep_univ_comm (fun (c : Dev nD) (d : Fin 16) => (dutyTok ER (barCell c) 0 d : sProp 𝕄))]
  iintro ⟨H1, H2, H3⟩
  isplitl [H1]; · iexact H1
  isplitl [H2]; · iapply hs; iexact H2
  iapply hr; iexact H3

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Kind → ℕ) (c : Dev nD) : iprop(records m ρ K ∗ linear c) ⊢ ghost m ρ c := by
  unfold ghost
  iintro H; iexists K; iexact H

theorem regroup :
    (bigSep Finset.univ fun c : Dev nD => iprop((bigSep Finset.univ fun k => iprop(∃ κ : ℕ, cellInv ER (sched m ρ) κ (kcell (c, k)))) ∗ marks c ∗ toks c) : sProp 𝕄)
      ⊢ bigSep Finset.univ (ghost m ρ) := by
  unfold marks
  rw [bigSep_sep', bigSep_sep', ← BI.bigSep_univ_prod (fun ck : Dev nD × Kind => iprop(∃ κ : ℕ, cellInv ER (sched m ρ) κ (kcell ck))),
    bigSep_congr (s := Finset.univ) (fun (c : Dev nD) _ => bigSep_sep' Finset.univ (fun k : Kind => (atPos ER (kcell (c, k)) 0 ∅ 0 : sProp 𝕄)) (fun k => reached ER (kcell (c, k)) 0)),
    bigSep_sep', ← BI.bigSep_univ_prod (fun ck : Dev nD × Kind => (reached ER (kcell ck) 0 : sProp 𝕄))]
  iintro ⟨HI, ⟨Hat, #HR⟩, Htok⟩
  ihave HK := (BI.bigSep_exists_pi Finset.univ (fun (ck : Dev nD × Kind) (κ : ℕ) => (cellInv ER (sched m ρ) κ (kcell ck) : sProp 𝕄))) $$ HI
  icases HK with ⟨%K, #HI⟩
  ihave Htk := (toks_dealt (F := F)) $$ Htok
  iapply (bigSep_with_persistent (R := records m ρ K) fun c _ => ghost_intro m ρ K c)
  isplitr
  · unfold records; isplitl; · iexact HI
    iexact HR
  · unfold linear
    rw [bigSep_sep']
    isplitl [Hat]; · iexact Hat
    iexact Htk

/-- All devices' semaphores at once become the devices' starting resources. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The launch's credits -/

theorem sum_tally_at {n : ℕ} {g : Fin n → GSem nD τ sig} (hg : Function.Injective g) (a : ℕ) (k : Fin n) :
    (∑ j : Fin n, tallyAt (g j) () a : CellTallies nD τ sig Unit) (g k) () = a := by
  rw [Finset.sum_apply, Finsupp.finset_sum_apply, Finset.sum_eq_single k (fun j _ hj => by rw [tallyAt_apply, if_neg fun h => hj (hg h.1).symm])
    (fun h => absurd (Finset.mem_univ k) h), tallyAt_apply, if_pos ⟨rfl, rfl⟩]

theorem sum_tally_off {n : ℕ} {g : Fin n → GSem nD τ sig} {a : ℕ} {x : GSem nD τ sig} (h : ∀ k, x ≠ g k) :
    (∑ j : Fin n, tallyAt (g j) () a : CellTallies nD τ sig Unit) x () = 0 := by
  by_contra h0
  obtain ⟨k, hk⟩ := sum_tally_pos (Nat.pos_of_ne_zero h0)
  exact h k hk

theorem kind_ne {c d : Dev nD} {k k' : Kind} (h : k ≠ k') : kcell (c, k) ≠ kcell (d, k') :=
  fun h' => h (Prod.ext_iff.mp (kcell_injective h')).2

/-- Every device owes a unit to every barrier; -/
theorem owed_bar (d c : Dev nD) : O₀ d (barCell c) () = 1 := by
  unfold O₀ owedRecv
  rw [Pi.add_apply, Finsupp.add_apply, sum_tally_off fun k => kind_ne (by simp), Nat.zero_add]
  exact sum_tally_at (g := barCell) (fun p q h => (Prod.ext_iff.mp (kcell_injective h)).1) 1 c

/-- receive cell `s` of `c` is owed a block's credit by device `s`. -/
theorem owed_recv (d c s : Dev nD) (h : s ≠ c) : O₀ d (recvCell c s) () = if d = s then N else 0 := by
  unfold O₀ owedRecv
  rw [Pi.add_apply, Finsupp.add_apply, sum_tally_off (g := fun p : Fin 16 => barCell p) fun p => kind_ne (by simp), Nat.add_zero]
  by_cases hd : d = s
  · subst hd
    obtain ⟨k, rfl⟩ := ahead_surjective d c h.symm
    rw [if_pos rfl]
    exact sum_tally_at (g := fun k : Fin 15 => recvCell (ahead d k.succ) d) (fun j k h => ahead_injective d (Prod.ext_iff.mp (kcell_injective h)).1) N k
  · rw [if_neg hd]
    exact sum_tally_off fun k h' => hd (Sum.inr_injective (Sum.inr_injective (Prod.ext_iff.mp (kcell_injective h')).2)).symm

theorem launch_bar (c : Dev nD) :
    tallyOn (barCell c) (launchCredit (Pipeline.owing O₀) 0 (barCell c)) = (tallyAt (barCell c) () 16 : CellTallies nD τ sig Unit) := by
  unfold tallyAt; refine congrArg _ (Finsupp.ext fun u => ?_); cases u
  rw [Pipeline.launchCredit_owing, Finsupp.single_eq_same, Finset.sum_congr rfl fun d _ => owed_bar d c]
  rfl

theorem launch_recv (c s : Dev nD) (h : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s h, Finset.sum_ite_eq' Finset.univ s fun _ => N,
    if_pos (Finset.mem_univ _)]

/-- The semaphores of the fifteen receive cells in use. -/
def recvLocs (c : Dev nD) : Fin 15 ↪ SemLoc sig :=
  ⟨fun k => .dma (recvS (back c k)), fun j k h => back_injective c (Sum.inr_injective (osem_injective h))⟩

theorem creds (c : Dev nD) : (Pipeline.launchCred O₀ c : sProp 𝕄) ⊢ credsOf c := by
  unfold Pipeline.launchCred credsOf
  rw [bigSep_univ_at _ (SemLoc.reg barS), launch_bar]
  refine sep_mono_right ?_
  refine (bigSep_subset (t := Finset.univ.map (recvLocs c)) fun l hl => ?_).trans ?_
  · obtain ⟨k, -, rfl⟩ := Finset.mem_map.mp hl
    exact Finset.mem_erase.mpr ⟨(fun h => by cases h), Finset.mem_univ _⟩
  · rw [bigSep_map]
    exact Entails.of_eq (bigSep_congr fun k _ => congrArg cred (launch_recv c (back c k) (back_ne c k)))

end Cert.AllToAll

end
-- ==== Proof.Run.lean ====
/-
# The run

From any memory with every semaphore at zero, the sixteen devices' kernels end, with the result arrays as computed,
the arguments as given and every semaphore at zero again.
-/
module

public import proofs.«01_k».proof.Proof.Launch
public import Idealize.ShloMosaic.Lib.Pipeline.CollectiveSegs
public import Idealize.ShloMosaic.Lib.Quiescent

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The side conditions of the launch -/

theorem ownSemFacts : Pipeline.OwnSemFacts cfg0.spec osem := by decide

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi_enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ yAny
  iintro ⟨Hs, -, Hr⟩
  isplitl [Hs]; · iexact Hs
  iexact Hr

theorem phi_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ yAny
  rw [sems_eq]
  iintro ⟨Hr, Hu, Ho⟩
  isplitl [Hu]; · iexact Hu
  isplitl [Ho]; · iexact Ho
  iexact Hr

/-- The staging semaphores are at level 0. -/
theorem lv_stage (c : Dev nD) (w : Fin 3) (s : Fin (cfg0.win w).nbuf) : lv ((c : Thread nD τ), SemLoc.dma ((cfg0.win w).sem s)) () = 0 := by
  have h : ∀ k, csem k ≠ SemLoc.dma ((cfg0.win w).sem s) := by
    rintro (_ | k)
    · intro h; cases h
    · exact fun h => ownSemFacts.disj k w s h
  unfold lv kindOf
  rw [dif_neg fun ⟨k, hk⟩ => h k hk]; rfl

theorem waits (c : Dev nD) : (levAts L lv : sProp 𝕄) ⊢ Pipeline.cellsWaits cfgs (dats m ρ) () 0 c :=
  Pipeline.cellsWaits_intro cfgs (dats m ρ) () 0 c fun w s t =>
    mayWait_low c _ (lv_stage c w s) _ (by
      rcases t with ⟨_ | _, ht⟩
      · exact Or.inl rfl
      · exact Or.inr rfl)

/-! ## The run -/

/-- The array of window `w` on device `c` after the run. -/
def finalA (c : Dev nD) (w : Fin cfg0.W) : Buf (Elt F) ((cfg0.win w).arr.view.loc (c : Thread nD τ)) := (dats m ρ 0 c).arrAt w cfg0.N

def final : PUnit × MemSt nD τ sig (Elt F) → Prop := fun r =>
  ∀ c : Dev nD, ∀ w : Fin cfg0.W, r.2.mem ((cfg0.win w).arr.view.loc (c : Thread nD τ)) = finalA m ρ c w

set_option maxRecDepth 65536 in
theorem run_main : θ_run defs (onTc (τ := τ) (main (F := F))) (s₀ m ρ) (fun r => final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_enter m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays hold what they held; -/
theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _

end Cert.AllToAll

end
-- ==== Proof.Equation.lean ====
/-
# The equation

Over the extended reals: `y` times the logistic function of `y` is `y / (1 + exp (-y))`, and clipping `y` to
`[-60, 60]` changes nothing where `|y| ≤ 60`.
-/
module

public import Idealize.ShloMosaic.Lib.IdealHost
public import Idealize.ShloMosaic.Lib.MatmulPlain

@[expose] public section

noncomputable section

namespace Cert.AllToAll

open Idealize.ShloMosaic Idealize.ShloMosaic.ValueIdx
open scoped BigOperators

/-- The exponential is nowhere negative. -/
theorem exp_nonneg (x : EReal) : 0 ≤ Ideal.exp x := by
  induction x with
  | bot => exact le_refl _
  | top => exact le_top
  | coe r => exact EReal.coe_nonneg.2 (Real.exp_pos r).le

/-- The denominator is nowhere zero. -/
theorem one_add_exp_ne_zero (x : EReal) : 1 + Ideal.exp x ≠ 0 :=
  (lt_of_lt_of_le zero_lt_one (le_add_of_nonneg_right (exp_nonneg x))).ne'

/-- The activation, as the references write it: `y / (1 + exp (-y))`. -/
def silu (y : EReal) : EReal := Ideal.div y (1 + Ideal.exp (-y))

/-- `y` times the logistic function of `y` is the activation. -/
theorem mul_logistic (y : EReal) : y * Ideal.logistic y = silu y := by
  unfold silu Ideal.logistic Ideal.div
  rw [if_neg (one_add_exp_ne_zero _), if_neg (one_add_exp_ne_zero _), one_mul]

/-- The pattern `0x42700000` is sixty. -/
theorem ofBits_sixty : Ideal.ofBits .f32 0x42700000#32 = ((60 : ℝ) : EReal) := by
  simp [Ideal.ofBits, Ideal.ieee, -EReal.coe_mul]; norm_num

/-- The pattern `0xC2700000` is minus sixty. -/
theorem ofBits_neg_sixty : Ideal.ofBits .f32 0xC2700000#32 = ((-60 : ℝ) : EReal) := by
  simp [Ideal.ofBits, Ideal.ieee, -EReal.coe_mul, -EReal.coe_neg]; norm_num

/-- A number of magnitude at most sixty is its own clip to `[-60, 60]`. -/
theorem clip_eq {y : EReal} (h : max y (-y) ≤ ((60 : ℝ) : EReal)) :
    min ((60 : ℝ) : EReal) (max ((-60 : ℝ) : EReal) y) = y := by
  have h₁ : y ≤ ((60 : ℝ) : EReal) := (le_max_left _ _).trans h
  have h₂ : ((-60 : ℝ) : EReal) ≤ y := by
    have := EReal.neg_le_neg_iff.2 ((le_max_right _ _).trans h)
    rwa [neg_neg, ← EReal.coe_neg] at this
  rw [max_eq_right h₂, min_eq_right h₁]

/-- The entry of a matrix product. -/
def entry {M K N : ℕ} (x : (⟨2, ![M, K]⟩ : Shape).Idx → EReal) (w : (⟨2, ![K, N]⟩ : Shape).Idx → EReal) (r : Fin M) (n : Fin N) : EReal :=
  ∑ k : Fin K, x (ix2 r k) * w (ix2 k n)

/-- The whole result: entry `(s, i, n)` is the activation of the product's entry `(64 s + i, n)`. -/
def result (x w : (⟨2, ![1024, 1024]⟩ : Shape).Idx → EReal) : (⟨3, ![16, 64, 1024]⟩ : Shape).Idx → EReal :=
  fun j => silu (entry x w ⟨64 * (j 0).val + (j 1).val, by
    have h₀ : (j 0).val < 16 := (j 0).isLt
    have h₁ : (j 1).val < 64 := (j 1).isLt
    omega⟩ (j 2))

end Cert.AllToAll

end
-- ==== Proof.Result.lean ====
/-
# The kernel's result

The array device `c` returns holds, at `(s, i, j)`, the activation of entry `(i, 64 c + j)` of the product of device
`s`'s block of the first operand with device `s`'s copy of the second.
-/
module

public import proofs.«01_k».proof.Proof.Run
public import proofs.«01_k».proof.Proof.Equation
public import Idealize.ShloMosaic.Lib.Pipeline.ValueKit.Geometry
public import Idealize.ShloMosaic.Lib.Pointwise

@[expose] public section

noncomputable section

namespace Cert.AllToAll

open Cert.KernelIdeal Cert.KernelIdeal.Gen
open Idealize.ShloMosaic
open Idealize.ShloMosaic.TcCoe
open Idealize.SL.Sem

/-! ## What the arrays hold -/

section
variable {F : FTy → Type} [FloatOps F]
variable (m : (ℓ : Loc nD τ sig) → Buf (Elt F) ℓ) (ρ : Dev nD → PrngReg)

/-- The whole first operand is staged; -/
theorem xstg_eq (c : Dev nD) : xstg m ρ c = m ((c : Thread nD τ).loc main_arg0) := by
  funext j
  refine congrArg (m ((c : Thread nD τ).loc main_arg0)) (funext fun a => Fin.ext ?_)
  match a with
  | ⟨0, _⟩ => show 0 + 1 * (j 0).val = (j 0).val; omega
  | ⟨1, _⟩ => show 0 + 1 * (j 1).val = (j 1).val; omega

/-- and the whole second. -/
theorem wstg_eq (c : Dev nD) : wstg m ρ c = m ((c : Thread nD τ).loc main_arg1) := by
  funext j
  refine congrArg (m ((c : Thread nD τ).loc main_arg1)) (funext fun a => Fin.ext ?_)
  match a with
  | ⟨0, _⟩ => show 0 + 1 * (j 0).val = (j 0).val; omega
  | ⟨1, _⟩ => show 0 + 1 * (j 1).val = (j 1).val; omega

/-- The result's array ends as the staging buffer was left. -/
theorem finalA_out (c : Dev nD) : finalA m ρ c (2 : Fin 3) = oBuf m ρ c :=
  (dats (F := F) m ρ 0 c).arrAt_eq_of_after_last (2 : Fin 3) t0_0 (by decide +kernel) _ fun _ => rfl

end

/-! ## Its entries -/

/-- An entry of the product the kernel forms. -/
theorem product_apply (x : FVec Ideal S64x1024 .f32) (w : FVec Ideal S1024x1024 .f32) (r : Fin 64) (n : Fin 1024) :
    matmul dot_S64x1024_S1024x1024_S64x1024_1_0_0_1_n_n none x w (constant S64x1024 .f32 0x00000000#32) (ValueIdx.ix2 r n) = entry x w r n := by
  refine (Ideal.matmul_plain_apply none x w (constant S64x1024 .f32 0x00000000#32) r n).trans ?_
  show Ideal.ofBits .f32 0x00000000#32 + _ = _
  rw [Ideal.ofBits_zero_f32, zero_add]; rfl

/-- An entry of a device's activations. -/
theorem act_apply (x : FVec Ideal S64x1024 .f32) (w : FVec Ideal S1024x1024 .f32) (r : Fin 64) (n : Fin 1024) :
    k0_pay1 (F := Ideal) x w (ValueIdx.ix2 r n) = silu (entry x w r n) := by
  unfold k0_pay1
  rw [shapeCast_self, shapeCast_self, ← mul_logistic, ← product_apply]
  rfl

/-- An entry of sixty-four columns of a matrix. -/
theorem colsOf_apply (k : Fin 16) (y : FVec Ideal S64x1024 .f32) (i : S1x64x64.Idx) (r : Fin 64) (n : Fin 1024)
    (hr : r.val = (i 1).val) (hn : n.val = 64 * k.val + (i 2).val) : colsOf k y i = y (ValueIdx.ix2 r n) := by
  unfold colsOf
  refine (shapeCast_addUnit_apply ![64, 64] _ _ i).trans (extractStridedSlice_apply _ y _ _ (ValueIdx.ix2 r n) fun a => ?_)
  match a with
  | ⟨0, _⟩ => show r.val = 0 + (i 1).val; omega
  | ⟨1, _⟩ => show n.val = 64 * k.val + (i 2).val; exact hn

variable (m : (ℓ : Loc nD τ sig) → Buf (Elt Ideal) ℓ) (ρ : Dev nD → PrngReg)

/-- The two operands on device `c`. -/
def xOf (c : Dev nD) : FVec Ideal S64x1024 .f32 := m ((c : Thread nD τ).loc main_arg0)
def wOf (c : Dev nD) : FVec Ideal S1024x1024 .f32 := m ((c : Thread nD τ).loc main_arg1)

/-- An entry of the result on device `c`. -/
theorem oBuf_apply (c s : Dev nD) (j : S16x64x64.Idx) (r : Fin 64) (n : Fin 1024)
    (hs : s.val = (j 0).val) (hr : r.val = (j 1).val) (hn : n.val = 64 * c.val + (j 2).val) :
    oBuf m ρ c j = silu (entry (xOf m s) (wOf m s) r n) := by
  obtain rfl : s = j 0 := Fin.ext hs
  refine (colsOf_apply c (act m ρ (j 0)) (within j) r n hr hn).trans ?_
  refine Eq.trans ?_ (act_apply (xOf m (j 0)) (wOf m (j 0)) r n)
  exact congrArg₂ (fun x w => k0_pay1 (F := Ideal) x w (ValueIdx.ix2 r n)) (xstg_eq m ρ (j 0)) (wstg_eq m ρ (j 0))

end Cert.AllToAll

end
-- ==== Proof.References.lean ====
/-
# What the references compute

Both references end with `result x w`: the plain one always, the clipping one where no entry of the product exceeds
sixty in magnitude. And what a device's block of the whole result, and of the whole first operand, holds.
-/
module

public import proofs.«01_k».proof.Proof.Equation
public import proofs.«01_k».proof.Proof.Gen.ReferenceIdeal
public import proofs.«01_k».proof.Proof.Gen.UnclippedIdeal
public import proofs.«01_k».proof.Proof.Gen.Pre_within_clip_KernelIdeal
public import Idealize.ShloMosaic.Lib.Pipeline.Value
public import Idealize.ShloMosaic.Lib.StackMember
public import Idealize.ShloMosaic.Lib.Layout

@[expose] public section

noncomputable section

namespace Cert.AllToAll

open Idealize.ShloMosaic

/-- An entry of a matrix reshaped into sixteen groups of sixty-four rows. -/
theorem regroup_apply {α : Type} (y : (⟨2, ![1024, 1024]⟩ : Shape).Idx → α)
    (h : (⟨2, ![1024, 1024]⟩ : Shape).ShapeCasts ⟨3, ![16, 64, 1024]⟩) (j : (⟨3, ![16, 64, 1024]⟩ : Shape).Idx) (r : Fin 1024)
    (hr : r.val = 64 * (j 0).val + (j 1).val) :
    shapeCast ⟨3, ![16, 64, 1024]⟩ y h j = y (ValueIdx.ix2 r (j 2)) := by
  refine shapeCast_apply y h j _ ?_
  rw [Shape.rowMajor_val_two, Shape.rowMajor_val_three]
  show r.val * 1024 + (j 2).val = ((j 0).val * 64 + (j 1).val) * 1024 + (j 2).val
  omega

/-- The value of the reference without the clip. -/
def unclippedOut (x w : FVec Ideal Cert.UnclippedIdeal.S1024x1024 .f32) : FVec Ideal Cert.UnclippedIdeal.S16x64x1024 .f32 :=
  let y := Host.dotGeneral Cert.UnclippedIdeal.dot_S1024x1024_S1024x1024_S1024x1024_1_0_0_1_n_n none x w
  shapeCast Cert.UnclippedIdeal.S16x64x1024
    (Host.divf y (addf (broadcastInDim Cert.UnclippedIdeal.S1024x1024 ![] Cert.UnclippedIdeal.Facts₀.bcast_S_S1024x1024
      (constant Cert.UnclippedIdeal.S_ .f32 0x3F800000#32)) (Host.exp (Host.negf y))))
    Cert.UnclippedIdeal.Facts₀.shapeCasts_S1024x1024_S16x64x1024

/-- The reference without the clip computes `result`. -/
theorem unclipped_eq (x w : FVec Ideal Cert.UnclippedIdeal.S1024x1024 .f32) : unclippedOut x w = result x w := by
  let y := Host.dotGeneral Cert.UnclippedIdeal.dot_S1024x1024_S1024x1024_S1024x1024_1_0_0_1_n_n none x w
  refine funext fun j => ?_
  have h₀ : (j 0).val < 16 := (j 0).isLt
  have h₁ : (j 1).val < 64 := (j 1).isLt
  unfold unclippedOut
  refine (regroup_apply _ _ j ⟨64 * (j 0).val + (j 1).val, by omega⟩ rfl).trans ?_
  show Ideal.div (y _) (Ideal.ofBits .f32 0x3F800000#32 + Ideal.exp (-(y _))) = _
  rw [Ideal.ofBits_one_f32]
  exact congrArg silu (StackMember.dotGeneral_plain_apply none x w _ _)

/-- The magnitude of every entry of the product is at most sixty. -/
def Within {M : ℕ} (x : (⟨2, ![M, 1024]⟩ : Shape).Idx → EReal) (w : (⟨2, ![1024, 1024]⟩ : Shape).Idx → EReal) : Prop :=
  ∀ r n, max (entry x w r n) (-entry x w r n) ≤ ((60 : ℝ) : EReal)

/-- The value of the reference with the clip. -/
def clippedOut (x w : FVec Ideal Cert.ReferenceIdeal.S1024x1024 .f32) : FVec Ideal Cert.ReferenceIdeal.S16x64x1024 .f32 :=
  let y := Host.dotGeneral Cert.ReferenceIdeal.dot_S1024x1024_S1024x1024_S1024x1024_1_0_0_1_n_n none x w
  let b := fun v : BitVec 32 => broadcastInDim Cert.ReferenceIdeal.S1024x1024 ![] Cert.ReferenceIdeal.Facts₀.bcast_S_S1024x1024
    (constant (F := Ideal) Cert.ReferenceIdeal.S_ .f32 v)
  shapeCast Cert.ReferenceIdeal.S16x64x1024
    (Host.divf y (addf (b 0x3F800000#32) (Host.exp (Host.negf (minimumf (b 0x42700000#32) (maximumf (b 0xC2700000#32) y))))))
    Cert.ReferenceIdeal.Facts₀.shapeCasts_S1024x1024_S16x64x1024

/-- The reference with the clip computes `result` where no entry of the product exceeds sixty. -/
theorem clipped_eq (x w : FVec Ideal Cert.ReferenceIdeal.S1024x1024 .f32) (hw : Within x w) : clippedOut x w = result x w := by
  let y := Host.dotGeneral Cert.ReferenceIdeal.dot_S1024x1024_S1024x1024_S1024x1024_1_0_0_1_n_n none x w
  refine funext fun j => ?_
  have h₀ : (j 0).val < 16 := (j 0).isLt
  have h₁ : (j 1).val < 64 := (j 1).isLt
  unfold clippedOut
  refine (regroup_apply _ _ j ⟨64 * (j 0).val + (j 1).val, by omega⟩ rfl).trans ?_
  show Ideal.div (y _) (Ideal.ofBits .f32 0x3F800000#32
    + Ideal.exp (-(min (Ideal.ofBits .f32 0x42700000#32) (max (Ideal.ofBits .f32 0xC2700000#32) (y _))))) = _
  rw [Ideal.ofBits_one_f32, ofBits_sixty, ofBits_neg_sixty]
  refine (congrArg (fun z : EReal => Ideal.div z (1 + Ideal.exp (-(min ((60 : ℝ) : EReal) (max ((-60 : ℝ) : EReal) z)))))
    (StackMember.dotGeneral_plain_apply none x w _ _)).trans ?_
  exact congrArg (fun z => Ideal.div _ (1 + Ideal.exp (-z))) (clip_eq (hw _ _))

/-- What the precondition says of one device's operands. -/
theorem within_of_pre (x : FVec Ideal Cert.Pre_within_clip_KernelIdeal.S64x1024 .f32)
    (w : FVec Ideal Cert.Pre_within_clip_KernelIdeal.S1024x1024 .f32)
    (h : Cert.Pre_within_clip_KernelIdeal.fn (F := Ideal) x w = fun _ => 1#1) : Within x w := by
  intro r n
  have h' := congrFun h (ValueIdx.ix2 r n)
  have e : Host.dotGeneral Cert.Pre_within_clip_KernelIdeal.dot_S64x1024_S1024x1024_S64x1024_1_0_0_1_n_n none x w (ValueIdx.ix2 r n)
      = entry x w r n := StackMember.dotGeneral_plain_apply none x w r n
  replace h' : BitVec.ofBool (decide (max (Host.dotGeneral Cert.Pre_within_clip_KernelIdeal.dot_S64x1024_S1024x1024_S64x1024_1_0_0_1_n_n none x w
      (ValueIdx.ix2 r n)) (-(Host.dotGeneral Cert.Pre_within_clip_KernelIdeal.dot_S64x1024_S1024x1024_S64x1024_1_0_0_1_n_n none x w
      (ValueIdx.ix2 r n))) ≤ Ideal.ofBits .f32 0x42700000#32)) = 1#1 := h'
  rw [e, ofBits_sixty] at h'
  by_contra hn
  rw [decide_eq_false hn] at h'
  exact absurd h' (by decide)

/-! ## Blocks -/

/-- Row `i` of device `s`'s block is row `64 s + i` of the whole. -/
theorem entry_block (x w : (⟨2, ![1024, 1024]⟩ : Shape).Idx → EReal) (s : Fin 16) (i : Fin 64) (n r : Fin 1024) (hr : r.val = 64 * s.val + i.val) :
    entry (Layout.block ⟨2, ![64, 1024]⟩ ⟨2, ![1024, 1024]⟩ 0 16 s x) w i n = entry x w r n := by
  refine Finset.sum_congr rfl fun k _ => congrArg (fun z => x z * _) (funext fun a => Fin.ext ?_)
  match a with
  | ⟨0, _⟩ => show s.val * 64 + i.val = r.val; omega
  | ⟨1, _⟩ => rfl

/-- If every device's block is within the clip, so is the whole. -/
theorem within_whole (x w : (⟨2, ![1024, 1024]⟩ : Shape).Idx → EReal)
    (h : ∀ s : Fin 16, Within (Layout.block ⟨2, ![64, 1024]⟩ ⟨2, ![1024, 1024]⟩ 0 16 s x) w) : Within x w := by
  intro r n
  have e := entry_block x w ⟨r.val / 64, by omega⟩ ⟨r.val % 64, by omega⟩ n r (by show r.val = 64 * (r.val / 64) + r.val % 64; omega)
  exact e ▸ h _ _ n

/-- An entry of the block of the whole result that device `c` returns. -/
theorem result_block (x w : (⟨2, ![1024, 1024]⟩ : Shape).Idx → EReal) (c : Fin 16) (j : (⟨3, ![16, 64, 64]⟩ : Shape).Idx)
    (r n : Fin 1024) (hr : r.val = 64 * (j 0).val + (j 1).val) (hn : n.val = 64 * c.val + (j 2).val) :
    (Layout.block ⟨3, ![16, 64, 64]⟩ ⟨3, ![16, 64, 1024]⟩ 2 16 c (result x w) : _ → EReal) j = silu (entry x w r n) := by
  refine congrArg₂ (fun a b => silu (entry x w a b)) (Fin.ext hr.symm : (⟨64 * (j 0).val + (j 1).val, _⟩ : Fin 1024) = r) (Fin.ext ?_)
  show c.val * 64 + (j 2).val = n.val
  omega

end Cert.AllToAll

end
-- ==== Proof.Whole.lean ====
/-
# The devices' results together

Where the first operand is the whole matrix cut into sixteen blocks of rows and the second is the whole matrix on
every device, device `c` returns the block `c` of `result` along the last axis.
-/
module

public import proofs.«01_k».proof.Proof.Result
public import proofs.«01_k».proof.Proof.References

@[expose] public section

noncomputable section

namespace Cert.AllToAll

open Cert.KernelIdeal Cert.KernelIdeal.Gen
open Idealize.ShloMosaic
open Idealize.ShloMosaic.TcCoe
open Idealize.SL.Sem

variable (m : (ℓ : Loc nD τ sig) → Buf (Elt Ideal) ℓ) (ρ : Dev nD → PrngReg)
variable (x w : (⟨2, ![1024, 1024]⟩ : Shape).Idx → EReal)

/-- The devices' operands are the blocks of `x` and copies of `w`. -/
def Holds : Prop := ∀ c : Dev nD, xOf m c = Layout.block ⟨2, ![64, 1024]⟩ ⟨2, ![1024, 1024]⟩ 0 16 c x ∧ wOf m c = w

/-- Device `c`'s result is block `c` of the whole result. -/
theorem oBuf_block (h : Holds m x w) (c : Dev nD) :
    oBuf m ρ c = Layout.block ⟨3, ![16, 64, 64]⟩ ⟨3, ![16, 64, 1024]⟩ 2 16 c (result x w) := by
  funext j
  have hs : (j 0).val < 16 := (j 0).isLt
  have hr : (j 1).val < 64 := (j 1).isLt
  have hj : (j 2).val < 64 := (j 2).isLt
  have hc : c.val < 16 := c.isLt
  let s : Dev nD := ⟨(j 0).val, hs⟩
  let r : Fin 64 := ⟨(j 1).val, hr⟩
  let n : Fin 1024 := ⟨64 * c.val + (j 2).val, by omega⟩
  let t : Fin 1024 := ⟨64 * s.val + r.val, by show 64 * (j 0).val + (j 1).val < 1024; omega⟩
  refine (oBuf_apply m ρ c s j r n rfl rfl rfl).trans ?_
  rw [(h s).1, (h s).2, entry_block x w s r n t rfl]
  exact (result_block x w c j t n rfl rfl).symm

/-- The run with the arguments' arrays as they were; -/
theorem run_frame {F : FTy → Type} [FloatOps F] (m : (ℓ : Loc nD τ sig) → Buf (Elt F) ℓ) (ρ : Dev nD → PrngReg) :
    θ_run defs (onTc (τ := τ) (main (F := F))) (s₀ m ρ) (fun r =>
      (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun _ h => ⟨fun c => ⟨(h.1 c (0 : Fin 3)).trans (finalA_x m ρ c), (h.1 c (1 : Fin 3)).trans (finalA_w m ρ c)⟩, h.2⟩)
    (run_main m ρ)

/-- and with the results as the blocks of the whole. -/
theorem run_value (h : Holds m x w) :
    θ_run defs (onTc (τ := τ) (main (F := Ideal))) (s₀ m ρ) (fun r =>
      ∀ c : Dev nD, r.2.mem ((c : Thread nD τ).loc main_v1) = Layout.block ⟨3, ![16, 64, 64]⟩ ⟨3, ![16, 64, 1024]⟩ 2 16 c (result x w)
        ∧ r.2.mem ((c : Thread nD τ).loc main_arg0) = m ((c : Thread nD τ).loc main_arg0)
        ∧ r.2.mem ((c : Thread nD τ).loc main_arg1) = m ((c : Thread nD τ).loc main_arg1)) :=
  (θ_run defs _ _).mono (fun _ hr c => ⟨((hr.1 c (2 : Fin 3)).trans (finalA_out m ρ c)).trans (oBuf_block m ρ x w h c),
      (hr.1 c (0 : Fin 3)).trans (finalA_x m ρ c), (hr.1 c (1 : Fin 3)).trans (finalA_w m ρ c)⟩)
    (run_main m ρ)

end Cert.AllToAll

end
-- ==== Proof.lean ====
/-
# The certificate

The run, the result and the references, put together into the claims.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.Pre_within_clip_KernelIdeal
public import proofs.«01_k».proof.Proof.Gen.Pre_within_clip_ReferenceIdeal
public import proofs.«01_k».proof.Proof.Whole
public import Idealize.ShloMosaic.Adequacy
public import Idealize.ShloMosaic.Init

@[expose] public section

noncomputable section

namespace Cert.Proof

open Idealize.ShloMosaic Idealize.SL.Sem Cert.AllToAll

/-! ## The frames -/

/-- The kernel's two texts have one table of bodies, -/
theorem bodies_eq : Cert.Kernel.defs₀ (F := Bits) = Cert.KernelIdeal.defs₀ (F := Bits) := by
  refine congrArg Defs.onTc (funext fun l => funext fun a => ?_)
  rcases l with ⟨_ | n, h⟩
  · obtain ⟨t, s⟩ := a
    rfl
  · exact absurd h (Nat.not_lt.2 (Nat.le_add_left _ _))

/-- with the regions of their one call. -/
theorem defs_eq : Cert.Kernel.defs (F := Bits) = Cert.KernelIdeal.defs (F := Bits) :=
  congrArg (Pipeline.defs (Cert.KernelIdeal.pcfgs (F := Bits))) bodies_eq

/-- The kernel at machine floats runs, keeps its arguments and leaves no semaphore raised; -/
theorem frame_kernel : Cert.quiescent_Kernel := by
  intro m ρ _
  rw [defs_eq]
  exact run_frame (F := Bits) m ρ

/-- and so does the kernel at the reals; -/
theorem frame_ideal : Cert.quiescent_KernelIdeal :=
  fun m ρ _ => run_frame (F := Ideal) m ρ

/-- also under the precondition; -/
theorem frame_ideal_pre : Cert.quiescent_KernelIdeal_pre_within_clip_KernelIdeal :=
  fun m ρ _ => run_frame (F := Ideal) m ρ

/-- and the reference with the clip; -/
theorem frame_reference : Cert.quiescent_ReferenceIdeal :=
  fun m ρ _ => (θ_run Cert.ReferenceIdeal.defs _ _).mono (fun r h => ⟨fun c => (h c).2, sem_eq_zero_of_no_sems (by decide) r.2⟩)
    (Cert.ReferenceIdeal.Value.run (F := Ideal) m ρ)

/-- also under the precondition; -/
theorem frame_reference_pre : Cert.quiescent_ReferenceIdeal_pre_within_clip_ReferenceIdeal :=
  fun m ρ _ => frame_reference m ρ trivial

/-- and the reference without the clip. -/
theorem frame_unclipped : Cert.quiescent_UnclippedIdeal :=
  fun m ρ _ => (θ_run Cert.UnclippedIdeal.defs _ _).mono (fun r h => ⟨fun c => (h c).2, sem_eq_zero_of_no_sems (by decide) r.2⟩)
    (Cert.UnclippedIdeal.Value.run (F := Ideal) m ρ)

/-! ## The values -/

/-- Where the precondition holds, the kernel computes what the reference with the clip computes. -/
theorem value_reference : Cert.algebraic_KernelIdeal_ReferenceIdeal_pre_within_clip_KernelIdeal := by
  intro m ρ m' ρ' hpre harg
  let x : FVec Ideal Cert.ReferenceIdeal.S1024x1024 .f32 :=
    m' (((0 : Dev Cert.ReferenceIdeal.nD).tc : Thread Cert.ReferenceIdeal.nD Cert.ReferenceIdeal.τ).loc Cert.ReferenceIdeal.main_arg0)
  let w : FVec Ideal Cert.ReferenceIdeal.S1024x1024 .f32 :=
    m' (((0 : Dev Cert.ReferenceIdeal.nD).tc : Thread Cert.ReferenceIdeal.nD Cert.ReferenceIdeal.τ).loc Cert.ReferenceIdeal.main_arg1)
  have hH : Holds m x w := harg
  have hW : Within x w := within_whole x w fun s => by
    have h := within_of_pre (xOf m s) (wOf m s) (hpre s)
    rwa [(hH s).1, (hH s).2] at h
  exact ⟨result x w, run_value m ρ x w hH, (θ_run Cert.ReferenceIdeal.defs _ _).mono
    (fun r h => ⟨(h 0).1.trans (clipped_eq x w hW), (h 0).2⟩) (Cert.ReferenceIdeal.Value.run (F := Ideal) m' ρ')⟩

/-- The kernel computes what the reference without the clip computes. -/
theorem value_unclipped : Cert.algebraic_KernelIdeal_UnclippedIdeal := by
  intro m ρ m' ρ' _ harg
  let x : FVec Ideal Cert.UnclippedIdeal.S1024x1024 .f32 :=
    m' (((0 : Dev Cert.UnclippedIdeal.nD).tc : Thread Cert.UnclippedIdeal.nD Cert.UnclippedIdeal.τ).loc Cert.UnclippedIdeal.main_arg0)
  let w : FVec Ideal Cert.UnclippedIdeal.S1024x1024 .f32 :=
    m' (((0 : Dev Cert.UnclippedIdeal.nD).tc : Thread Cert.UnclippedIdeal.nD Cert.UnclippedIdeal.τ).loc Cert.UnclippedIdeal.main_arg1)
  exact ⟨result x w, run_value m ρ x w harg, (θ_run Cert.UnclippedIdeal.defs _ _).mono
    (fun r h => ⟨(h 0).1.trans (unclipped_eq x w), (h 0).2⟩) (Cert.UnclippedIdeal.Value.run (F := Ideal) m' ρ')⟩

theorem claim : Cert.Claim :=
  ⟨Cert.Kernel.Gen.facts, Cert.KernelIdeal.Gen.facts, Cert.ReferenceIdeal.Gen.facts, Cert.UnclippedIdeal.Gen.facts,
    Cert.Pre_within_clip_KernelIdeal.Gen.facts, Cert.Pre_within_clip_ReferenceIdeal.Gen.facts,
    frame_kernel, frame_ideal, frame_ideal_pre, frame_reference, frame_reference_pre, frame_unclipped, trivial,
    value_reference, value_unclipped⟩

end Cert.Proof

end
